-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v46)) (v2 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_v49) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S8x128 : Shape := ⟨2, ![8, 128]⟩
abbrev S32000x512 : Shape := ⟨2, ![32000, 512]⟩
abbrev S4096x512 : Shape := ⟨2, ![4096, 512]⟩
abbrev S4096x1024 : Shape := ⟨2, ![4096, 1024]⟩
abbrev S4096 : Shape := ⟨1, ![4096]⟩
abbrev S32000x1024 : Shape := ⟨2, ![32000, 1024]⟩
abbrev S32000 : Shape := ⟨1, ![32000]⟩
abbrev S_ : Shape := ⟨0, ![]⟩

class Facts : Prop where
  bcast_S_S8x128 : S_.BroadcastsInDim S8x128 (![] : Fin 0 → Fin S8x128.rank)
  reducesTo_S8x128_S_d0_1 : S8x128.ReducesTo [0, 1] S_
  h_S_ : 0 < S_.numel

variable [Facts]

def fn {F : FTy → Type} [FloatOps F] (main_arg0 : IVec S8x128 32) (main_arg1 : FVec F S32000x512 .f32) (main_arg2 : FVec F S4096x512 .f32) (main_arg3 : FVec F S4096x1024 .f32) (main_arg4 : FVec F S4096 .f32) (main_arg5 : FVec F S4096 .f32) (main_arg6 : FVec F S4096x1024 .f32) (main_arg7 : FVec F S4096x1024 .f32) (main_arg8 : FVec F S4096 .f32) (main_arg9 : FVec F S4096 .f32) (main_arg10 : FVec F S32000x1024 .f32) (main_arg11 : FVec F S32000 .f32) : IVec S_ 1 :=
  let main_c : IVec S_ 32 := constantI S_ 32 0#32
  let main_v0 : IVec S8x128 32 := broadcastInDim S8x128 ![] bcast_S_S8x128 main_c
  let main_v1 : IVec S8x128 1 := cmpi .sge main_arg0 main_v0
  let main_c_0 : IVec S_ 32 := constantI S_ 32 32000#32
  let main_v2 : IVec S8x128 32 := broadcastInDim S8x128 ![] bcast_S_S8x128 main_c_0
  let main_v3 : IVec S8x128 1 := cmpi .slt main_arg0 main_v2
  let main_v4 : IVec S8x128 1 := andi main_v1 main_v3
  let main_c_1 : IVec S_ 1 := constantI S_ 1 1#1
  let main_v5 : IVec S_ 1 := (fun x v => Host.reduce IntOp.andi x v reducesTo_S8x128_S_d0_1 h_S_) main_v4 main_c_1
  main_v5
-- ==== Kernel.lean ====
abbrev S8x128 : Shape := ⟨2, ![8, 128]⟩
abbrev S32000x512 : Shape := ⟨2, ![32000, 512]⟩
abbrev S4096x512 : Shape := ⟨2, ![4096, 512]⟩
abbrev S4096x1024 : Shape := ⟨2, ![4096, 1024]⟩
abbrev S4096 : Shape := ⟨1, ![4096]⟩
abbrev S32000x1024 : Shape := ⟨2, ![32000, 1024]⟩
abbrev S32000 : Shape := ⟨1, ![32000]⟩
abbrev S128x8 : Shape := ⟨2, ![128, 8]⟩
abbrev S1024 : Shape := ⟨1, ![1024]⟩
abbrev S128000x128 : Shape := ⟨2, ![128000, 128]⟩
abbrev S1024x1 : Shape := ⟨2, ![1024, 1]⟩
abbrev S_ : Shape := ⟨0, ![]⟩
abbrev S4 : Shape := ⟨1, ![4]⟩
abbrev S1x4 : Shape := ⟨2, ![1, 4]⟩
abbrev S1024x4 : Shape := ⟨2, ![1024, 4]⟩
abbrev S1x4096 : Shape := ⟨2, ![1, 4096]⟩
abbrev S4096x128 : Shape := ⟨2, ![4096, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S1024x512 : Shape := ⟨2, ![1024, 512]⟩
abbrev S512x4096 : Shape := ⟨2, ![512, 4096]⟩
abbrev S1024x4096 : Shape := ⟨2, ![1024, 4096]⟩
abbrev S128x8x4096 : Shape := ⟨3, ![128, 8, 4096]⟩
abbrev S128x8x1024 : Shape := ⟨3, ![128, 8, 1024]⟩
abbrev S8x1024 : Shape := ⟨2, ![8, 1024]⟩
abbrev S1x8x4096 : Shape := ⟨3, ![1, 8, 4096]⟩
abbrev S1x8x1024 : Shape := ⟨3, ![1, 8, 1024]⟩
abbrev S8x4096 : Shape := ⟨2, ![8, 4096]⟩
abbrev S1024x1024 : Shape := ⟨2, ![1024, 1024]⟩
abbrev S8x128x1024 : Shape := ⟨3, ![8, 128, 1024]⟩
abbrev S1024x32000 : Shape := ⟨2, ![1024, 32000]⟩
abbrev S1x32000 : Shape := ⟨2, ![1, 32000]⟩
abbrev S1024x3200 : Shape := ⟨2, ![1024, 3200]⟩
abbrev S1x3200 : Shape := ⟨2, ![1, 3200]⟩
abbrev S8x128x32000 : Shape := ⟨3, ![8, 128, 32000]⟩
abbrev S2x8x1024 : Shape := ⟨3, ![2, 8, 1024]⟩

abbrev nBuf : Table → Nat
  | .hbm => 67
  | .local .tc .vmem => 33
  | .local .scVector .vmem => 2
  | _ => 0

abbrev bufTy : (tb : Table) → Fin (nBuf tb) → BufTy
  | .hbm, ⟨0, _⟩ => ⟨S8x128, .i32⟩
  | .hbm, ⟨1, _⟩ => ⟨S32000x512, .f32⟩
  | .hbm, ⟨2, _⟩ => ⟨S4096x512, .f32⟩
  | .hbm, ⟨3, _⟩ => ⟨S4096x1024, .f32⟩
  | .hbm, ⟨4, _⟩ => ⟨S4096, .f32⟩
  | .hbm, ⟨5, _⟩ => ⟨S4096, .f32⟩
  | .hbm, ⟨6, _⟩ => ⟨S4096x1024, .f32⟩
  | .hbm, ⟨7, _⟩ => ⟨S4096x1024, .f32⟩
  | .hbm, ⟨8, _⟩ => ⟨S4096, .f32⟩
  | .hbm, ⟨9, _⟩ => ⟨S4096, .f32⟩
  | .hbm, ⟨10, _⟩ => ⟨S32000x1024, .f32⟩
  | .hbm, ⟨11, _⟩ => ⟨S32000, .f32⟩
  | .hbm, ⟨12, _⟩ => ⟨S128x8, .i32⟩
  | .hbm, ⟨13, _⟩ => ⟨S1024, .i32⟩
  | .hbm, ⟨14, _⟩ => ⟨S128000x128, .f32⟩
  | .hbm, ⟨15, _⟩ => ⟨S1024x1, .i32⟩
  | .hbm, ⟨16, _⟩ => ⟨S_, .i32⟩
  | .hbm, ⟨17, _⟩ => ⟨S1024x1, .i32⟩
  | .hbm, ⟨18, _⟩ => ⟨S1024x1, .i32⟩
  | .hbm, ⟨19, _⟩ => ⟨S4, .i32⟩
  | .hbm, ⟨20, _⟩ => ⟨S1x4, .i32⟩
  | .hbm, ⟨21, _⟩ => ⟨S1024x4, .i32⟩
  | .hbm, ⟨22, _⟩ => ⟨S1024x4, .i32⟩
  | .hbm, ⟨23, _⟩ => ⟨S1024x4, .i32⟩
  | .hbm, ⟨24, _⟩ => ⟨S4096, .i32⟩
  | .hbm, ⟨25, _⟩ => ⟨S1x4096, .i32⟩
  | .hbm, ⟨26, _⟩ => ⟨S4096x128, .f32⟩
  | .hbm, ⟨27, _⟩ => ⟨S1024x512, .f32⟩
  | .hbm, ⟨28, _⟩ => ⟨S1024x512, .bf16⟩
  | .hbm, ⟨29, _⟩ => ⟨S4096x512, .bf16⟩
  | .hbm, ⟨30, _⟩ => ⟨S512x4096, .bf16⟩
  | .hbm, ⟨31, _⟩ => ⟨S4096, .f32⟩
  | .hbm, ⟨32, _⟩ => ⟨S1x4096, .f32⟩
  | .hbm, ⟨33, _⟩ => ⟨S1024x4096, .f32⟩
  | .hbm, ⟨34, _⟩ => ⟨S128x8x4096, .f32⟩
  | .hbm, ⟨35, _⟩ => ⟨S4096x1024, .bf16⟩
  | .hbm, ⟨36, _⟩ => ⟨S1024x4096, .bf16⟩
  | .hbm, ⟨37, _⟩ => ⟨S128x8x1024, .f32⟩
  | .hbm, ⟨38, _⟩ => ⟨S8x1024, .f32⟩
  | .hbm, ⟨39, _⟩ => ⟨S8x1024, .f32⟩
  | .hbm, ⟨40, _⟩ => ⟨S1024x1024, .f32⟩
  | .hbm, ⟨41, _⟩ => ⟨S1024x1024, .bf16⟩
  | .hbm, ⟨42, _⟩ => ⟨S4096x1024, .bf16⟩
  | .hbm, ⟨43, _⟩ => ⟨S1024x4096, .bf16⟩
  | .hbm, ⟨44, _⟩ => ⟨S4096, .f32⟩
  | .hbm, ⟨45, _⟩ => ⟨S1x4096, .f32⟩
  | .hbm, ⟨46, _⟩ => ⟨S1024x4096, .f32⟩
  | .hbm, ⟨47, _⟩ => ⟨S128x8x4096, .f32⟩
  | .hbm, ⟨48, _⟩ => ⟨S4096x1024, .bf16⟩
  | .hbm, ⟨49, _⟩ => ⟨S1024x4096, .bf16⟩
  | .hbm, ⟨50, _⟩ => ⟨S128x8x1024, .f32⟩
  | .hbm, ⟨51, _⟩ => ⟨S8x1024, .f32⟩
  | .hbm, ⟨52, _⟩ => ⟨S8x1024, .f32⟩
  | .hbm, ⟨53, _⟩ => ⟨S8x128x1024, .f32⟩
  | .hbm, ⟨54, _⟩ => ⟨S1024x1024, .f32⟩
  | .hbm, ⟨55, _⟩ => ⟨S1024x1024, .bf16⟩
  | .hbm, ⟨56, _⟩ => ⟨S32000x1024, .bf16⟩
  | .hbm, ⟨57, _⟩ => ⟨S1024x32000, .bf16⟩
  | .hbm, ⟨58, _⟩ => ⟨S1x32000, .f32⟩
  | .hbm, ⟨59, _⟩ => ⟨S1024x32000, .f32⟩
  | .hbm, ⟨60, _⟩ => ⟨S8x128x32000, .f32⟩
  | .hbm, ⟨61, _⟩ => ⟨S1x8x1024, .f32⟩
  | .hbm, ⟨62, _⟩ => ⟨S1x8x1024, .f32⟩
  | .hbm, ⟨63, _⟩ => ⟨S2x8x1024, .f32⟩
  | .hbm, ⟨64, _⟩ => ⟨S1x8x1024, .f32⟩
  | .hbm, ⟨65, _⟩ => ⟨S1x8x1024, .f32⟩
  | .hbm, ⟨66, _⟩ => ⟨S2x8x1024, .f32⟩
  | .local .tc .vmem, ⟨0, _⟩ => ⟨S1024x512, .bf16⟩
  | .local .tc .vmem, ⟨1, _⟩ => ⟨S512x4096, .bf16⟩
  | .local .tc .vmem, ⟨2, _⟩ => ⟨S1x4096, .f32⟩
  | .local .tc .vmem, ⟨3, _⟩ => ⟨S1024x4096, .f32⟩
  | .local .tc .vmem, ⟨4, _⟩ => ⟨S1x8x4096, .f32⟩
  | .local .tc .vmem, ⟨5, _⟩ => ⟨S1x8x4096, .f32⟩
  | .local .tc .vmem, ⟨6, _⟩ => ⟨S1024x4096, .bf16⟩
  | .local .tc .vmem, ⟨7, _⟩ => ⟨S1x8x1024, .f32⟩
  | .local .tc .vmem, ⟨8, _⟩ => ⟨S1x8x1024, .f32⟩
  | .local .tc .vmem, ⟨9, _⟩ => ⟨S8x1024, .f32⟩
  | .local .tc .vmem, ⟨10, _⟩ => ⟨S8x1024, .f32⟩
  | .local .tc .vmem, ⟨11, _⟩ => ⟨S8x1024, .f32⟩
  | .local .tc .vmem, ⟨12, _⟩ => ⟨S8x1024, .f32⟩
  | .local .tc .vmem, ⟨13, _⟩ => ⟨S1024x1024, .bf16⟩
  | .local .tc .vmem, ⟨14, _⟩ => ⟨S1024x4096, .bf16⟩
  | .local .tc .vmem, ⟨15, _⟩ => ⟨S1x4096, .f32⟩
  | .local .tc .vmem, ⟨16, _⟩ => ⟨S1024x4096, .f32⟩
  | .local .tc .vmem, ⟨17, _⟩ => ⟨S1x8x4096, .f32⟩
  | .local .tc .vmem, ⟨18, _⟩ => ⟨S1x8x4096, .f32⟩
  | .local .tc .vmem, ⟨19, _⟩ => ⟨S1024x4096, .bf16⟩
  | .local .tc .vmem, ⟨20, _⟩ => ⟨S1x8x1024, .f32⟩
  | .local .tc .vmem, ⟨21, _⟩ => ⟨S1x8x1024, .f32⟩
  | .local .tc .vmem, ⟨22, _⟩ => ⟨S8x1024, .f32⟩
  | .local .tc .vmem, ⟨23, _⟩ => ⟨S8x1024, .f32⟩
  | .local .tc .vmem, ⟨24, _⟩ => ⟨S8x1024, .f32⟩
  | .local .tc .vmem, ⟨25, _⟩ => ⟨S8x1024, .f32⟩
  | .local .tc .vmem, ⟨26, _⟩ => ⟨S1024x1024, .bf16⟩
  | .local .tc .vmem, ⟨27, _⟩ => ⟨S1024x3200, .bf16⟩
  | .local .tc .vmem, ⟨28, _⟩ => ⟨S1024x3200, .bf16⟩
  | .local .tc .vmem, ⟨29, _⟩ => ⟨S1x3200, .f32⟩
  | .local .tc .vmem, ⟨30, _⟩ => ⟨S1x3200, .f32⟩
  | .local .tc .vmem, ⟨31, _⟩ => ⟨S1024x3200, .f32⟩
  | .local .tc .vmem, ⟨32, _⟩ => ⟨S1024x3200, .f32⟩
  | .local .scVector .vmem, ⟨0, _⟩ => ⟨S2x1x128, .i32⟩
  | .local .scVector .vmem, ⟨1, _⟩ => ⟨S2x128x128, .f32⟩
  | _, _ => ⟨S8x128, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 34 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTables nBuf rfl bufTy 4 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35_0 : Ref sig .tc := ⟨.hbm, 50, rfl⟩
abbrev main_v35_1 : Ref sig .tc := ⟨.hbm, 51, rfl⟩
abbrev main_v35_2 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v2_scv : Ref sig .scVector := ⟨.hbm, 14, rfl⟩
abbrev main_v12_scv : Ref sig .scVector := ⟨.hbm, 25, rfl⟩
abbrev main_v13_scv : Ref sig .scVector := ⟨.hbm, 26, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg2_1 : Ref sig .tc := ⟨.vmem, 8, rfl⟩
abbrev cc2_stg3_0 : Ref sig .tc := ⟨.vmem, 9, rfl⟩
abbrev cc2_stg4_0 : Ref sig .tc := ⟨.vmem, 10, rfl⟩
abbrev cc2_scratch0 : Ref sig .tc := ⟨.vmem, 11, rfl⟩
abbrev cc2_scratch1 : Ref sig .tc := ⟨.vmem, 12, rfl⟩
abbrev cc3_stg0_0 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg3_0 : Ref sig .tc := ⟨.vmem, 16, rfl⟩
abbrev cc4_stg0_0 : Ref sig .tc := ⟨.vmem, 17, rfl⟩
abbrev cc4_stg0_1 : Ref sig .tc := ⟨.vmem, 18, rfl⟩
abbrev cc4_stg1_0 : Ref sig .tc := ⟨.vmem, 19, rfl⟩
abbrev cc4_stg2_0 : Ref sig .tc := ⟨.vmem, 20, rfl⟩
abbrev cc4_stg2_1 : Ref sig .tc := ⟨.vmem, 21, rfl⟩
abbrev cc4_stg3_0 : Ref sig .tc := ⟨.vmem, 22, rfl⟩
abbrev cc4_stg4_0 : Ref sig .tc := ⟨.vmem, 23, rfl⟩
abbrev cc4_scratch0 : Ref sig .tc := ⟨.vmem, 24, rfl⟩
abbrev cc4_scratch1 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc5_stg3_0 : Ref sig .tc := ⟨.vmem, 31, rfl⟩
abbrev cc5_stg3_1 : Ref sig .tc := ⟨.vmem, 32, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem1_0 : DmaSem sig := 6
abbrev cc1_sem2_0 : DmaSem sig := 7
abbrev cc1_sem3_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc2_sem3_0 : DmaSem sig := 14
abbrev cc2_sem4_0 : DmaSem sig := 15
abbrev cc3_sem0_0 : DmaSem sig := 16
abbrev cc3_sem1_0 : DmaSem sig := 17
abbrev cc3_sem2_0 : DmaSem sig := 18
abbrev cc3_sem3_0 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc4_sem3_0 : DmaSem sig := 25
abbrev cc4_sem4_0 : DmaSem sig := 26
abbrev cc5_sem0_0 : DmaSem sig := 27
abbrev cc5_sem1_0 : DmaSem sig := 28
abbrev cc5_sem1_1 : DmaSem sig := 29
abbrev cc5_sem2_0 : DmaSem sig := 30
abbrev cc5_sem2_1 : DmaSem sig := 31
abbrev cc5_sem3_0 : DmaSem sig := 32
abbrev cc5_sem3_1 : DmaSem sig := 33
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_19_r0 : BitVec 32 := 0#32
  let c2_i32_r0 : BitVec 32 := 2#32
  let v20_r0 : BitVec 32 := Scalar.remui c0_i32_19_r0 c2_i32_r0
  let c0_i32_20_r0 : BitVec 32 := 0#32
  let c0_i32_21_r0 : BitVec 32 := 0#32
  ![v20_r0.toNat, 0, 0]
def k0_off2 (i : grid0.Coords) : Fin 2 → Nat :=
  let c0_i32_22_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v7_r0 : BitVec 32 := Scalar.addi c0_i32_2_r0 v4
  let v21_r0 : BitVec 32 := Scalar.muli c128_i32_r0 v7_r0
  ![0, v21_r0.toNat]
def k0_off3 : Fin 1 → Nat :=
  let c0_i32_19_r0 : BitVec 32 := 0#32
  let c2_i32_r0 : BitVec 32 := 2#32
  let v20_r0 : BitVec 32 := Scalar.remui c0_i32_19_r0 c2_i32_r0
  ![v20_r0.toNat]
def k0_cond1 (i : grid0.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_47_r0 : BitVec 32 := 0#32
  let v41_r0 : BitVec 32 := Scalar.addi c0_i32_47_r0 v4
  let v46_r0 : BitVec 1 := Scalar.cmpi .ne v33_r0 v41_r0
  let c0_i32_32_r0 : BitVec 32 := 0#32
  let c0_i32_54_r0 : BitVec 32 := 0#32
  let v47_r0 : BitVec 1 := Scalar.cmpi .sge c0_i32_32_r0 c0_i32_54_r0
  let true_55_r0 : BitVec 1 := 1#1
  let v48_r0 : BitVec 1 := Scalar.xori v47_r0 true_55_r0
  let v49_r0 : BitVec 1 := Scalar.andi v46_r0 v48_r0
  let true_56_r0 : BitVec 1 := 1#1
  let v50_r0 : BitVec 1 := Scalar.andi v49_r0 true_56_r0
  let v51_r0 : BitVec 32 := Scalar.extui v50_r0
  let c0_i32_57_r0 : BitVec 32 := 0#32
  let v52_r0 : BitVec 1 := Scalar.cmpi .ne v51_r0 c0_i32_57_r0
  v52_r0

def k0_off4 : Fin 3 → Nat :=
  let c0_i32_26_r0 : BitVec 32 := 0#32
  let c1_i32_27_r0 : BitVec 32 := 1#32
  let v30_r0 : BitVec 32 := Scalar.addi c0_i32_26_r0 c1_i32_27_r0
  let c2_i32_119_r0 : BitVec 32 := 2#32
  let v134_r0 : BitVec 32 := Scalar.remui v30_r0 c2_i32_119_r0
  let c0_i32_121_r0 : BitVec 32 := 0#32
  let c0_i32_122_r0 : BitVec 32 := 0#32
  ![v134_r0.toNat, 0, 0]
def k0_off5 (i : grid0.Coords) : Fin 2 → Nat :=
  let c0_i32_123_r0 : BitVec 32 := 0#32
  let c128_i32_120_r0 : BitVec 32 := 128#32
  let c0_i32_47_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v41_r0 : BitVec 32 := Scalar.addi c0_i32_47_r0 v4
  let v135_r0 : BitVec 32 := Scalar.muli c128_i32_120_r0 v41_r0
  ![0, v135_r0.toNat]
def k0_off6 : Fin 1 → Nat :=
  let c0_i32_26_r0 : BitVec 32 := 0#32
  let c1_i32_27_r0 : BitVec 32 := 1#32
  let v30_r0 : BitVec 32 := Scalar.addi c0_i32_26_r0 c1_i32_27_r0
  let c2_i32_119_r0 : BitVec 32 := 2#32
  let v134_r0 : BitVec 32 := Scalar.remui v30_r0 c2_i32_119_r0
  ![v134_r0.toNat]
def k0_cond2 (i : grid0.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v60_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let v61_r0 : BitVec 1 := Scalar.ori v60_r0 v31_r0
  let c0_i32_62_r0 : BitVec 32 := 0#32
  let v62_r0 : BitVec 1 := Scalar.cmpi .sge c0_i32_32_r0 c0_i32_62_r0
  let v63_r0 : BitVec 1 := Scalar.andi v61_r0 v62_r0
  let v64_r0 : BitVec 32 := Scalar.extui v63_r0
  let c0_i32_63_r0 : BitVec 32 := 0#32
  let v65_r0 : BitVec 1 := Scalar.cmpi .ne v64_r0 c0_i32_63_r0
  v65_r0

def k0_off7 : Fin 3 → Nat :=
  let c0_i32_28_r0 : BitVec 32 := 0#32
  let c2_i32_120_r0 : BitVec 32 := 2#32
  let v135_r0 : BitVec 32 := Scalar.remui c0_i32_28_r0 c2_i32_120_r0
  let c0_i32_121_r0 : BitVec 32 := 0#32
  let c0_i32_122_r0 : BitVec 32 := 0#32
  ![v135_r0.toNat, 0, 0]
def k0_off8 (i : grid0.Coords) : Fin 2 → Nat :=
  let c0_i32_123_r0 : BitVec 32 := 0#32
  let c128_i32_119_r0 : BitVec 32 := 128#32
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let v134_r0 : BitVec 32 := Scalar.muli c128_i32_119_r0 v33_r0
  ![0, v134_r0.toNat]
def k0_off9 : Fin 1 → Nat :=
  let c0_i32_28_r0 : BitVec 32 := 0#32
  let c2_i32_120_r0 : BitVec 32 := 2#32
  let v135_r0 : BitVec 32 := Scalar.remui c0_i32_28_r0 c2_i32_120_r0
  ![v135_r0.toNat]
def k0_off10 : Fin 3 → Nat :=
  let c0_i32_29_r0 : BitVec 32 := 0#32
  let c2_i32_67_r0 : BitVec 32 := 2#32
  let v73_r0 : BitVec 32 := Scalar.remui c0_i32_29_r0 c2_i32_67_r0
  let c0_i32_119_r1 : BitVec 32 := 0#32
  let c0_i32_120_r1 : BitVec 32 := 0#32
  ![v73_r0.toNat, 0, 0]
def k0_cond5 (i : grid0.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_47_r0 : BitVec 32 := 0#32
  let v41_r0 : BitVec 32 := Scalar.addi c0_i32_47_r0 v4
  let v79_r0 : BitVec 1 := Scalar.cmpi .ne v33_r0 v41_r0
  let c0_i32_32_r0 : BitVec 32 := 0#32
  let c0_i32_34_r0 : BitVec 32 := 0#32
  let v32_r0 : BitVec 1 := Scalar.cmpi .eq c0_i32_32_r0 c0_i32_34_r0
  let v80_r0 : BitVec 1 := Scalar.ori v79_r0 v32_r0
  let v81_r0 : BitVec 32 := Scalar.extui v80_r0
  let c0_i32_70_r0 : BitVec 32 := 0#32
  let v82_r0 : BitVec 1 := Scalar.cmpi .ne v81_r0 c0_i32_70_r0
  v82_r0

def k0_off11 : Fin 3 → Nat :=
  let c0_i32_29_r0 : BitVec 32 := 0#32
  let c2_i32_119_r0 : BitVec 32 := 2#32
  let v134_r0 : BitVec 32 := Scalar.remui c0_i32_29_r0 c2_i32_119_r0
  let c0_i32_121_r0 : BitVec 32 := 0#32
  let c0_i32_122_r0 : BitVec 32 := 0#32
  ![v134_r0.toNat, 0, 0]
def k0_off12 (i : grid0.Coords) : Fin 2 → Nat :=
  let c128_i32_120_r0 : BitVec 32 := 128#32
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let v135_r0 : BitVec 32 := Scalar.muli c128_i32_120_r0 v33_r0
  let c0_i32_123_r0 : BitVec 32 := 0#32
  ![v135_r0.toNat, 0]
def k0_off13 : Fin 1 → Nat :=
  let c0_i32_29_r0 : BitVec 32 := 0#32
  let c2_i32_119_r0 : BitVec 32 := 2#32
  let v134_r0 : BitVec 32 := Scalar.remui c0_i32_29_r0 c2_i32_119_r0
  ![v134_r0.toNat]
def k0_cond7 (i : grid0.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v92_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let true_76_r0 : BitVec 1 := 1#1
  let v93_r0 : BitVec 1 := Scalar.xori v31_r0 true_76_r0
  let v94_r0 : BitVec 1 := Scalar.andi v92_r0 v93_r0
  let v95_r0 : BitVec 32 := Scalar.extui v94_r0
  let c0_i32_77_r0 : BitVec 32 := 0#32
  let v96_r0 : BitVec 1 := Scalar.cmpi .ne v95_r0 c0_i32_77_r0
  v96_r0

def k0_off14 : Fin 3 → Nat :=
  let c0_i32_30_r0 : BitVec 32 := 0#32
  let c2_i32_119_r0 : BitVec 32 := 2#32
  let v134_r0 : BitVec 32 := Scalar.remui c0_i32_30_r0 c2_i32_119_r0
  let c0_i32_121_r0 : BitVec 32 := 0#32
  let c0_i32_122_r0 : BitVec 32 := 0#32
  ![v134_r0.toNat, 0, 0]
def k0_off15 (i : grid0.Coords) : Fin 2 → Nat :=
  let c128_i32_120_r0 : BitVec 32 := 128#32
  let c0_i32_41_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v37_r0 : BitVec 32 := Scalar.addi c0_i32_41_r0 v4
  let v135_r0 : BitVec 32 := Scalar.muli c128_i32_120_r0 v37_r0
  let c0_i32_123_r0 : BitVec 32 := 0#32
  ![v135_r0.toNat, 0]
def k0_off16 : Fin 1 → Nat :=
  let c0_i32_30_r0 : BitVec 32 := 0#32
  let c2_i32_119_r0 : BitVec 32 := 2#32
  let v134_r0 : BitVec 32 := Scalar.remui c0_i32_30_r0 c2_i32_119_r0
  ![v134_r0.toNat]
def k0_off17 (i : grid0.Coords) : Fin 3 → Nat :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v92_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let true_76_r0 : BitVec 1 := 1#1
  let v93_r0 : BitVec 1 := Scalar.xori v31_r0 true_76_r0
  let v94_r0 : BitVec 1 := Scalar.andi v92_r0 v93_r0
  let true_78_r0 : BitVec 1 := 1#1
  let v97_r0 : BitVec 1 := Scalar.andi v94_r0 true_78_r0
  let c0_i32_30_r0 : BitVec 32 := 0#32
  let c1_i32_79_r0 : BitVec 32 := 1#32
  let v98_r0 : BitVec 32 := Scalar.addi c0_i32_30_r0 c1_i32_79_r0
  let v99_r0 : BitVec 32 := Scalar.select v97_r0 v98_r0 c0_i32_30_r0
  let c2_i32_111_r0 : BitVec 32 := 2#32
  let v124_r0 : BitVec 32 := Scalar.remui v99_r0 c2_i32_111_r0
  let c0_i32_113_r0 : BitVec 32 := 0#32
  let c0_i32_114_r0 : BitVec 32 := 0#32
  ![v124_r0.toNat, 0, 0]
def k0_off18 (i : grid0.Coords) : Fin 2 → Nat :=
  let c128_i32_112_r0 : BitVec 32 := 128#32
  let c0_i32_92_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v111_r0 : BitVec 32 := Scalar.addi c0_i32_92_r0 v4
  let v125_r0 : BitVec 32 := Scalar.muli c128_i32_112_r0 v111_r0
  let c0_i32_115_r0 : BitVec 32 := 0#32
  ![v125_r0.toNat, 0]
def k0_off19 (i : grid0.Coords) : Fin 1 → Nat :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v92_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let true_76_r0 : BitVec 1 := 1#1
  let v93_r0 : BitVec 1 := Scalar.xori v31_r0 true_76_r0
  let v94_r0 : BitVec 1 := Scalar.andi v92_r0 v93_r0
  let true_78_r0 : BitVec 1 := 1#1
  let v97_r0 : BitVec 1 := Scalar.andi v94_r0 true_78_r0
  let c0_i32_30_r0 : BitVec 32 := 0#32
  let c1_i32_79_r0 : BitVec 32 := 1#32
  let v98_r0 : BitVec 32 := Scalar.addi c0_i32_30_r0 c1_i32_79_r0
  let v99_r0 : BitVec 32 := Scalar.select v97_r0 v98_r0 c0_i32_30_r0
  let c2_i32_111_r0 : BitVec 32 := 2#32
  let v124_r0 : BitVec 32 := Scalar.remui v99_r0 c2_i32_111_r0
  ![v124_r0.toNat]
abbrev grid1 : Pipeline.Grid := .none

abbrev stage1_0 : Fin 1 → Memref sig .tc .vmem S1024x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨1, ![128], ![false]⟩

def k2_cond2 (i : grid2.Coords) : BitVec 1 :=
  let arg0 : BitVec 32 := BitVec.ofNat 32 (i 0).val
  let c127_i32 : BitVec 32 := 127#32
  let v34 : BitVec 1 := Scalar.cmpi .eq arg0 c127_i32
  let v35 : BitVec 32 := Scalar.extui v34
  let c0_i32_16 : BitVec 32 := 0#32
  let v36 : BitVec 1 := Scalar.cmpi .ne v35 c0_i32_16
  v36

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x8x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x8x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := .none

abbrev stage3_0 : Fin 1 → Memref sig .tc .vmem S1024x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1024x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x4096 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1024x4096 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev grid4 : Pipeline.Grid := ⟨1, ![128], ![false]⟩

def k4_cond2 (i : grid4.Coords) : BitVec 1 :=
  let arg0 : BitVec 32 := BitVec.ofNat 32 (i 0).val
  let c127_i32 : BitVec 32 := 127#32
  let v34 : BitVec 1 := Scalar.cmpi .eq arg0 c127_i32
  let v35 : BitVec 32 := Scalar.extui v34
  let c0_i32_16 : BitVec 32 := 0#32
  let v36 : BitVec 1 := Scalar.cmpi .ne v35 c0_i32_16
  v36

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1x8x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x4096 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x8x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S8x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S8x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S1024x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S1024x3200 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x3200 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1024x3200 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x128 : Shape := ⟨2, ![8, 128]⟩
abbrev S32000x512 : Shape := ⟨2, ![32000, 512]⟩
abbrev S4096x512 : Shape := ⟨2, ![4096, 512]⟩
abbrev S4096x1024 : Shape := ⟨2, ![4096, 1024]⟩
abbrev S4096 : Shape := ⟨1, ![4096]⟩
abbrev S32000x1024 : Shape := ⟨2, ![32000, 1024]⟩
abbrev S32000 : Shape := ⟨1, ![32000]⟩
abbrev S_ : Shape := ⟨0, ![]⟩
abbrev S8x128x1 : Shape := ⟨3, ![8, 128, 1]⟩
abbrev S1 : Shape := ⟨1, ![1]⟩
abbrev S1x1x1 : Shape := ⟨3, ![1, 1, 1]⟩
abbrev S8x128x512 : Shape := ⟨3, ![8, 128, 512]⟩
abbrev S8x1024 : Shape := ⟨2, ![8, 1024]⟩
abbrev S128x8x512 : Shape := ⟨3, ![128, 8, 512]⟩
abbrev S128x8x1024 : Shape := ⟨3, ![128, 8, 1024]⟩
abbrev S1x8x512 : Shape := ⟨3, ![1, 8, 512]⟩
abbrev S8x512 : Shape := ⟨2, ![8, 512]⟩
abbrev S512x4096 : Shape := ⟨2, ![512, 4096]⟩
abbrev S8x4096 : Shape := ⟨2, ![8, 4096]⟩
abbrev S1x4096 : Shape := ⟨2, ![1, 4096]⟩
abbrev S1024x4096 : Shape := ⟨2, ![1024, 4096]⟩
abbrev S1x8x1024 : Shape := ⟨3, ![1, 8, 1024]⟩
abbrev S8x128x1024 : Shape := ⟨3, ![8, 128, 1024]⟩
abbrev S1024x32000 : Shape := ⟨2, ![1024, 32000]⟩
abbrev S8x128x32000 : Shape := ⟨3, ![8, 128, 32000]⟩
abbrev S1x1x32000 : Shape := ⟨3, ![1, 1, 32000]⟩
abbrev S2x8x1024 : Shape := ⟨3, ![2, 8, 1024]⟩

abbrev nBuf : Space → Nat
  | .hbm => 170
  | .vmem => 0
  | .smem => 0
  | _ => 0

abbrev hbmTy0_0 (i : Nat) : BufTy := match i % 128 with
  | 0 => ⟨S8x128, .i32⟩
  | 1 => ⟨S32000x512, .f32⟩
  | 2 => ⟨S4096x512, .f32⟩
  | 3 => ⟨S4096x1024, .f32⟩
  | 4 => ⟨S4096, .f32⟩
  | 5 => ⟨S4096, .f32⟩
  | 6 => ⟨S4096x1024, .f32⟩
  | 7 => ⟨S4096x1024, .f32⟩
  | 8 => ⟨S4096, .f32⟩
  | 9 => ⟨S4096, .f32⟩
  | 10 => ⟨S32000x1024, .f32⟩
  | 11 => ⟨S32000, .f32⟩
  | 12 => ⟨S_, .i32⟩
  | 13 => ⟨S8x128, .i32⟩
  | 14 => ⟨S8x128, .i1⟩
  | 15 => ⟨S_, .i32⟩
  | 16 => ⟨S8x128, .i32⟩
  | 17 => ⟨S8x128, .i32⟩
  | 18 => ⟨S8x128, .i32⟩
  | 19 => ⟨S8x128x1, .i32⟩
  | 20 => ⟨S1, .i32⟩
  | 21 => ⟨S_, .i32⟩
  | 22 => ⟨S8x128x1, .i32⟩
  | 23 => ⟨S8x128x1, .i1⟩
  | 24 => ⟨S1x1x1, .i32⟩
  | 25 => ⟨S8x128x1, .i32⟩
  | 26 => ⟨S8x128x1, .i1⟩
  | 27 => ⟨S8x128x1, .i1⟩
  | 28 => ⟨S_, .i1⟩
  | 29 => ⟨S8x128, .i1⟩
  | 30 => ⟨S8x128x512, .f32⟩
  | 31 => ⟨S8x128x512, .i1⟩
  | 32 => ⟨S_, .f32⟩
  | 33 => ⟨S8x128x512, .f32⟩
  | 34 => ⟨S8x128x512, .f32⟩
  | 35 => ⟨S_, .f32⟩
  | 36 => ⟨S8x1024, .f32⟩
  | 37 => ⟨S128x8x512, .f32⟩
  | 38 => ⟨S_, .f32⟩
  | 39 => ⟨S128x8x1024, .f32⟩
  | 40 => ⟨S_, .i32⟩
  | 41 => ⟨S128x8x512, .f32⟩
  | 42 => ⟨S4096x512, .f32⟩
  | 43 => ⟨S4096, .f32⟩
  | 44 => ⟨S4096x1024, .f32⟩
  | 45 => ⟨S4096, .f32⟩
  | 46 => ⟨S4096x1024, .f32⟩
  | 47 => ⟨S4096, .f32⟩
  | 48 => ⟨S4096x1024, .f32⟩
  | 49 => ⟨S4096, .f32⟩
  | 50 => ⟨S_, .i32⟩
  | 51 => ⟨S8x1024, .f32⟩
  | 52 => ⟨S8x1024, .f32⟩
  | 53 => ⟨S8x1024, .f32⟩
  | 54 => ⟨S8x1024, .f32⟩
  | 55 => ⟨S128x8x1024, .f32⟩
  | 56 => ⟨S_, .i32⟩
  | 57 => ⟨S_, .i1⟩
  | 58 => ⟨S_, .i32⟩
  | 59 => ⟨S_, .i32⟩
  | 60 => ⟨S1x8x512, .f32⟩
  | 61 => ⟨S8x512, .f32⟩
  | 62 => ⟨S512x4096, .f32⟩
  | 63 => ⟨S8x4096, .f32⟩
  | 64 => ⟨S1x4096, .f32⟩
  | 65 => ⟨S8x4096, .f32⟩
  | 66 => ⟨S8x4096, .f32⟩
  | 67 => ⟨S1024x4096, .f32⟩
  | 68 => ⟨S8x4096, .f32⟩
  | 69 => ⟨S8x4096, .f32⟩
  | 70 => ⟨S1x4096, .f32⟩
  | 71 => ⟨S8x4096, .f32⟩
  | 72 => ⟨S8x4096, .f32⟩
  | 73 => ⟨S8x1024, .f32⟩
  | 74 => ⟨S8x1024, .f32⟩
  | 75 => ⟨S8x1024, .f32⟩
  | 76 => ⟨S8x1024, .f32⟩
  | 77 => ⟨S8x1024, .f32⟩
  | 78 => ⟨S8x1024, .f32⟩
  | 79 => ⟨S_, .f32⟩
  | 80 => ⟨S8x1024, .f32⟩
  | 81 => ⟨S8x1024, .f32⟩
  | 82 => ⟨S_, .f32⟩
  | 83 => ⟨S8x1024, .f32⟩
  | 84 => ⟨S8x1024, .f32⟩
  | 85 => ⟨S8x1024, .f32⟩
  | 86 => ⟨S8x1024, .f32⟩
  | 87 => ⟨S_, .f32⟩
  | 88 => ⟨S8x1024, .f32⟩
  | 89 => ⟨S8x1024, .f32⟩
  | 90 => ⟨S_, .f32⟩
  | 91 => ⟨S8x1024, .f32⟩
  | 92 => ⟨S8x1024, .f32⟩
  | 93 => ⟨S8x1024, .f32⟩
  | 94 => ⟨S8x1024, .f32⟩
  | 95 => ⟨S8x1024, .f32⟩
  | 96 => ⟨S_, .f32⟩
  | 97 => ⟨S8x1024, .f32⟩
  | 98 => ⟨S8x1024, .f32⟩
  | 99 => ⟨S_, .f32⟩
  | 100 => ⟨S8x1024, .f32⟩
  | 101 => ⟨S8x1024, .f32⟩
  | 102 => ⟨S8x1024, .f32⟩
  | 103 => ⟨S8x1024, .f32⟩
  | 104 => ⟨S8x1024, .f32⟩
  | 105 => ⟨S8x1024, .f32⟩
  | 106 => ⟨S8x1024, .f32⟩
  | 107 => ⟨S1024x4096, .f32⟩
  | 108 => ⟨S8x4096, .f32⟩
  | 109 => ⟨S1x4096, .f32⟩
  | 110 => ⟨S8x4096, .f32⟩
  | 111 => ⟨S8x4096, .f32⟩
  | 112 => ⟨S1024x4096, .f32⟩
  | 113 => ⟨S8x4096, .f32⟩
  | 114 => ⟨S8x4096, .f32⟩
  | 115 => ⟨S1x4096, .f32⟩
  | 116 => ⟨S8x4096, .f32⟩
  | 117 => ⟨S8x4096, .f32⟩
  | 118 => ⟨S8x1024, .f32⟩
  | 119 => ⟨S8x1024, .f32⟩
  | 120 => ⟨S8x1024, .f32⟩
  | 121 => ⟨S8x1024, .f32⟩
  | 122 => ⟨S8x1024, .f32⟩
  | 123 => ⟨S8x1024, .f32⟩
  | 124 => ⟨S_, .f32⟩
  | 125 => ⟨S8x1024, .f32⟩
  | 126 => ⟨S8x1024, .f32⟩
  | 127 => ⟨S_, .f32⟩
  | _ => ⟨S8x128, .i32⟩

abbrev hbmTy0_1 (i : Nat) : BufTy := match i % 128 with
  | 0 => ⟨S8x1024, .f32⟩
  | 1 => ⟨S8x1024, .f32⟩
  | 2 => ⟨S8x1024, .f32⟩
  | 3 => ⟨S8x1024, .f32⟩
  | 4 => ⟨S_, .f32⟩
  | 5 => ⟨S8x1024, .f32⟩
  | 6 => ⟨S8x1024, .f32⟩
  | 7 => ⟨S_, .f32⟩
  | 8 => ⟨S8x1024, .f32⟩
  | 9 => ⟨S8x1024, .f32⟩
  | 10 => ⟨S8x1024, .f32⟩
  | 11 => ⟨S8x1024, .f32⟩
  | 12 => ⟨S8x1024, .f32⟩
  | 13 => ⟨S_, .f32⟩
  | 14 => ⟨S8x1024, .f32⟩
  | 15 => ⟨S8x1024, .f32⟩
  | 16 => ⟨S_, .f32⟩
  | 17 => ⟨S8x1024, .f32⟩
  | 18 => ⟨S8x1024, .f32⟩
  | 19 => ⟨S8x1024, .f32⟩
  | 20 => ⟨S8x1024, .f32⟩
  | 21 => ⟨S8x1024, .f32⟩
  | 22 => ⟨S8x1024, .f32⟩
  | 23 => ⟨S8x1024, .f32⟩
  | 24 => ⟨S1x8x1024, .f32⟩
  | 25 => ⟨S_, .i32⟩
  | 26 => ⟨S_, .i32⟩
  | 27 => ⟨S128x8x1024, .f32⟩
  | 28 => ⟨S_, .i32⟩
  | 29 => ⟨S_, .i32⟩
  | 30 => ⟨S8x128x1024, .f32⟩
  | 31 => ⟨S1024x32000, .f32⟩
  | 32 => ⟨S8x128x32000, .f32⟩
  | 33 => ⟨S1x1x32000, .f32⟩
  | 34 => ⟨S8x128x32000, .f32⟩
  | 35 => ⟨S8x128x32000, .f32⟩
  | 36 => ⟨S1x8x1024, .f32⟩
  | 37 => ⟨S1x8x1024, .f32⟩
  | 38 => ⟨S2x8x1024, .f32⟩
  | 39 => ⟨S1x8x1024, .f32⟩
  | 40 => ⟨S1x8x1024, .f32⟩
  | 41 => ⟨S2x8x1024, .f32⟩
  | _ => ⟨S8x128, .i32⟩

abbrev hbmTy (i : Nat) : BufTy := match i / 128 with
  | 0 => hbmTy0_0 i
  | 1 => hbmTy0_1 i
  | _ => ⟨S8x128, .i32⟩

abbrev bufTy : (tb : Table) → Fin (tcTables nBuf tb) → BufTy
  | .hbm, ⟨i, _⟩ => hbmTy i
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_cst : Ref sig .tc := ⟨.hbm, 35, rfl⟩
abbrev main_v1 : Ref sig .tc := ⟨.hbm, 36, rfl⟩
abbrev main_v2 : Ref sig .tc := ⟨.hbm, 37, rfl⟩
abbrev main_cst_0 : Ref sig .tc := ⟨.hbm, 38, rfl⟩
abbrev main_v3 : Ref sig .tc := ⟨.hbm, 39, rfl⟩
abbrev main_c : Ref sig .tc := ⟨.hbm, 40, rfl⟩
abbrev main_v4_0 : Ref sig .tc := ⟨.hbm, 41, rfl⟩
abbrev main_v4_1 : Ref sig .tc := ⟨.hbm, 42, rfl⟩
abbrev main_v4_2 : Ref sig .tc := ⟨.hbm, 43, rfl⟩
abbrev main_v4_3 : Ref sig .tc := ⟨.hbm, 44, rfl⟩
abbrev main_v4_4 : Ref sig .tc := ⟨.hbm, 45, rfl⟩
abbrev main_v4_5 : Ref sig .tc := ⟨.hbm, 46, rfl⟩
abbrev main_v4_6 : Ref sig .tc := ⟨.hbm, 47, rfl⟩
abbrev main_v4_7 : Ref sig .tc := ⟨.hbm, 48, rfl⟩
abbrev main_v4_8 : Ref sig .tc := ⟨.hbm, 49, rfl⟩
abbrev main_v4_9 : Ref sig .tc := ⟨.hbm, 50, rfl⟩
abbrev main_v4_10 : Ref sig .tc := ⟨.hbm, 51, rfl⟩
abbrev main_v4_11 : Ref sig .tc := ⟨.hbm, 52, rfl⟩
abbrev main_v4_12 : Ref sig .tc := ⟨.hbm, 53, rfl⟩
abbrev main_v4_13 : Ref sig .tc := ⟨.hbm, 54, rfl⟩
abbrev main_v4_14 : Ref sig .tc := ⟨.hbm, 55, rfl⟩
abbrev main_while0c_c_15 : Ref sig .tc := ⟨.hbm, 56, rfl⟩
abbrev main_while0c_v17 : Ref sig .tc := ⟨.hbm, 57, rfl⟩
abbrev main_while0b_call1_c : Ref sig .tc := ⟨.hbm, 58, rfl⟩
abbrev main_while0b_call1_c_0 : Ref sig .tc := ⟨.hbm, 59, rfl⟩
abbrev main_while0b_call1_v0 : Ref sig .tc := ⟨.hbm, 60, rfl⟩
abbrev main_while0b_v17 : Ref sig .tc := ⟨.hbm, 61, rfl⟩
abbrev main_while0b_v18 : Ref sig .tc := ⟨.hbm, 62, rfl⟩
abbrev main_while0b_v19 : Ref sig .tc := ⟨.hbm, 63, rfl⟩
abbrev main_while0b_v20 : Ref sig .tc := ⟨.hbm, 64, rfl⟩
abbrev main_while0b_v21 : Ref sig .tc := ⟨.hbm, 65, rfl⟩
abbrev main_while0b_v22 : Ref sig .tc := ⟨.hbm, 66, rfl⟩
abbrev main_while0b_v23 : Ref sig .tc := ⟨.hbm, 67, rfl⟩
abbrev main_while0b_v24 : Ref sig .tc := ⟨.hbm, 68, rfl⟩
abbrev main_while0b_v25 : Ref sig .tc := ⟨.hbm, 69, rfl⟩
abbrev main_while0b_v26 : Ref sig .tc := ⟨.hbm, 70, rfl⟩
abbrev main_while0b_v27 : Ref sig .tc := ⟨.hbm, 71, rfl⟩
abbrev main_while0b_v28 : Ref sig .tc := ⟨.hbm, 72, rfl⟩
abbrev main_while0b_v29 : Ref sig .tc := ⟨.hbm, 73, rfl⟩
abbrev main_while0b_v30 : Ref sig .tc := ⟨.hbm, 74, rfl⟩
abbrev main_while0b_v31 : Ref sig .tc := ⟨.hbm, 75, rfl⟩
abbrev main_while0b_v32 : Ref sig .tc := ⟨.hbm, 76, rfl⟩
abbrev main_while0b_v33 : Ref sig .tc := ⟨.hbm, 77, rfl⟩
abbrev main_while0b_v34 : Ref sig .tc := ⟨.hbm, 78, rfl⟩
abbrev main_while0b_cst_15 : Ref sig .tc := ⟨.hbm, 79, rfl⟩
abbrev main_while0b_v35 : Ref sig .tc := ⟨.hbm, 80, rfl⟩
abbrev main_while0b_v36 : Ref sig .tc := ⟨.hbm, 81, rfl⟩
abbrev main_while0b_cst_16 : Ref sig .tc := ⟨.hbm, 82, rfl⟩
abbrev main_while0b_v37 : Ref sig .tc := ⟨.hbm, 83, rfl⟩
abbrev main_while0b_v38 : Ref sig .tc := ⟨.hbm, 84, rfl⟩
abbrev main_while0b_v39 : Ref sig .tc := ⟨.hbm, 85, rfl⟩
abbrev main_while0b_v40 : Ref sig .tc := ⟨.hbm, 86, rfl⟩
abbrev main_while0b_cst_17 : Ref sig .tc := ⟨.hbm, 87, rfl⟩
abbrev main_while0b_v41 : Ref sig .tc := ⟨.hbm, 88, rfl⟩
abbrev main_while0b_v42 : Ref sig .tc := ⟨.hbm, 89, rfl⟩
abbrev main_while0b_cst_18 : Ref sig .tc := ⟨.hbm, 90, rfl⟩
abbrev main_while0b_v43 : Ref sig .tc := ⟨.hbm, 91, rfl⟩
abbrev main_while0b_v44 : Ref sig .tc := ⟨.hbm, 92, rfl⟩
abbrev main_while0b_v45 : Ref sig .tc := ⟨.hbm, 93, rfl⟩
abbrev main_while0b_v46 : Ref sig .tc := ⟨.hbm, 94, rfl⟩
abbrev main_while0b_v47 : Ref sig .tc := ⟨.hbm, 95, rfl⟩
abbrev main_while0b_cst_19 : Ref sig .tc := ⟨.hbm, 96, rfl⟩
abbrev main_while0b_v48 : Ref sig .tc := ⟨.hbm, 97, rfl⟩
abbrev main_while0b_v49 : Ref sig .tc := ⟨.hbm, 98, rfl⟩
abbrev main_while0b_cst_20 : Ref sig .tc := ⟨.hbm, 99, rfl⟩
abbrev main_while0b_v50 : Ref sig .tc := ⟨.hbm, 100, rfl⟩
abbrev main_while0b_v51 : Ref sig .tc := ⟨.hbm, 101, rfl⟩
abbrev main_while0b_v52 : Ref sig .tc := ⟨.hbm, 102, rfl⟩
abbrev main_while0b_v53 : Ref sig .tc := ⟨.hbm, 103, rfl⟩
abbrev main_while0b_v54 : Ref sig .tc := ⟨.hbm, 104, rfl⟩
abbrev main_while0b_v55 : Ref sig .tc := ⟨.hbm, 105, rfl⟩
abbrev main_while0b_v56 : Ref sig .tc := ⟨.hbm, 106, rfl⟩
abbrev main_while0b_v57 : Ref sig .tc := ⟨.hbm, 107, rfl⟩
abbrev main_while0b_v58 : Ref sig .tc := ⟨.hbm, 108, rfl⟩
abbrev main_while0b_v59 : Ref sig .tc := ⟨.hbm, 109, rfl⟩
abbrev main_while0b_v60 : Ref sig .tc := ⟨.hbm, 110, rfl⟩
abbrev main_while0b_v61 : Ref sig .tc := ⟨.hbm, 111, rfl⟩
abbrev main_while0b_v62 : Ref sig .tc := ⟨.hbm, 112, rfl⟩
abbrev main_while0b_v63 : Ref sig .tc := ⟨.hbm, 113, rfl⟩
abbrev main_while0b_v64 : Ref sig .tc := ⟨.hbm, 114, rfl⟩
abbrev main_while0b_v65 : Ref sig .tc := ⟨.hbm, 115, rfl⟩
abbrev main_while0b_v66 : Ref sig .tc := ⟨.hbm, 116, rfl⟩
abbrev main_while0b_v67 : Ref sig .tc := ⟨.hbm, 117, rfl⟩
abbrev main_while0b_v68 : Ref sig .tc := ⟨.hbm, 118, rfl⟩
abbrev main_while0b_v69 : Ref sig .tc := ⟨.hbm, 119, rfl⟩
abbrev main_while0b_v70 : Ref sig .tc := ⟨.hbm, 120, rfl⟩
abbrev main_while0b_v71 : Ref sig .tc := ⟨.hbm, 121, rfl⟩
abbrev main_while0b_v72 : Ref sig .tc := ⟨.hbm, 122, rfl⟩
abbrev main_while0b_v73 : Ref sig .tc := ⟨.hbm, 123, rfl⟩
abbrev main_while0b_cst_21 : Ref sig .tc := ⟨.hbm, 124, rfl⟩
abbrev main_while0b_v74 : Ref sig .tc := ⟨.hbm, 125, rfl⟩
abbrev main_while0b_v75 : Ref sig .tc := ⟨.hbm, 126, rfl⟩
abbrev main_while0b_cst_22 : Ref sig .tc := ⟨.hbm, 127, rfl⟩
abbrev main_while0b_v76 : Ref sig .tc := ⟨.hbm, 128, rfl⟩
abbrev main_while0b_v77 : Ref sig .tc := ⟨.hbm, 129, rfl⟩
abbrev main_while0b_v78 : Ref sig .tc := ⟨.hbm, 130, rfl⟩
abbrev main_while0b_v79 : Ref sig .tc := ⟨.hbm, 131, rfl⟩
abbrev main_while0b_cst_23 : Ref sig .tc := ⟨.hbm, 132, rfl⟩
abbrev main_while0b_v80 : Ref sig .tc := ⟨.hbm, 133, rfl⟩
abbrev main_while0b_v81 : Ref sig .tc := ⟨.hbm, 134, rfl⟩
abbrev main_while0b_cst_24 : Ref sig .tc := ⟨.hbm, 135, rfl⟩
abbrev main_while0b_v82 : Ref sig .tc := ⟨.hbm, 136, rfl⟩
abbrev main_while0b_v83 : Ref sig .tc := ⟨.hbm, 137, rfl⟩
abbrev main_while0b_v84 : Ref sig .tc := ⟨.hbm, 138, rfl⟩
abbrev main_while0b_v85 : Ref sig .tc := ⟨.hbm, 139, rfl⟩
abbrev main_while0b_v86 : Ref sig .tc := ⟨.hbm, 140, rfl⟩
abbrev main_while0b_cst_25 : Ref sig .tc := ⟨.hbm, 141, rfl⟩
abbrev main_while0b_v87 : Ref sig .tc := ⟨.hbm, 142, rfl⟩
abbrev main_while0b_v88 : Ref sig .tc := ⟨.hbm, 143, rfl⟩
abbrev main_while0b_cst_26 : Ref sig .tc := ⟨.hbm, 144, rfl⟩
abbrev main_while0b_v89 : Ref sig .tc := ⟨.hbm, 145, rfl⟩
abbrev main_while0b_v90 : Ref sig .tc := ⟨.hbm, 146, rfl⟩
abbrev main_while0b_v91 : Ref sig .tc := ⟨.hbm, 147, rfl⟩
abbrev main_while0b_v92 : Ref sig .tc := ⟨.hbm, 148, rfl⟩
abbrev main_while0b_v93 : Ref sig .tc := ⟨.hbm, 149, rfl⟩
abbrev main_while0b_v94 : Ref sig .tc := ⟨.hbm, 150, rfl⟩
abbrev main_while0b_v95 : Ref sig .tc := ⟨.hbm, 151, rfl⟩
abbrev main_while0b_call2_v0 : Ref sig .tc := ⟨.hbm, 152, rfl⟩
abbrev main_while0b_call2_c : Ref sig .tc := ⟨.hbm, 153, rfl⟩
abbrev main_while0b_call2_c_0 : Ref sig .tc := ⟨.hbm, 154, rfl⟩
abbrev main_while0b_v96 : Ref sig .tc := ⟨.hbm, 155, rfl⟩
abbrev main_while0b_c_27 : Ref sig .tc := ⟨.hbm, 156, rfl⟩
abbrev main_while0b_v97 : Ref sig .tc := ⟨.hbm, 157, rfl⟩
abbrev main_v5 : Ref sig .tc := ⟨.hbm, 158, rfl⟩
abbrev main_v6 : Ref sig .tc := ⟨.hbm, 159, rfl⟩
abbrev main_v7 : Ref sig .tc := ⟨.hbm, 160, rfl⟩
abbrev main_v8 : Ref sig .tc := ⟨.hbm, 161, rfl⟩
abbrev main_v9 : Ref sig .tc := ⟨.hbm, 162, rfl⟩
abbrev main_v10 : Ref sig .tc := ⟨.hbm, 163, rfl⟩
abbrev main_v11 : Ref sig .tc := ⟨.hbm, 164, rfl⟩
abbrev main_v12 : Ref sig .tc := ⟨.hbm, 165, rfl⟩
abbrev main_v13 : Ref sig .tc := ⟨.hbm, 166, rfl⟩
abbrev main_v14 : Ref sig .tc := ⟨.hbm, 167, rfl⟩
abbrev main_v15 : Ref sig .tc := ⟨.hbm, 168, rfl⟩
abbrev main_v16 : Ref sig .tc := ⟨.hbm, 169, rfl⟩

abbrev nD : Nat := 1
abbrev τ : Topo := Topo.v7x

variable {F : FTy → Type} [FloatOps F]

abbrev main_while0_count : Scf.Loop 32 := ⟨0#32, 128#32, 1#32⟩
-- ==== Proof.Spec.lean ====
/-
  The gathered rows, from the indices and the table, as a function of array elements; used by the kernel's side and by
  the reference's.
-/
module

public import proofs.«01_k».proof.Pre_in_vocab
public import Idealize.ShloMosaic.PureOps
public import Idealize.ShloMosaic.Lib.ValueIdxCore
public import Idealize.ShloMosaic.Lib.Pipeline.Value
public import Idealize.ShloMosaic.Lib.ReduceAll

@[expose] public section

noncomputable section

namespace Cert.Spec

open Idealize.ShloMosaic Idealize.ShloMosaic.ValueIdx

/-- Row `8 * s + b` of the result is the table row that token `s` of sequence `b` names. -/
def rowsOf {α : Type} (x : (⟨2, ![8, 128]⟩ : Shape).Idx → BitVec 32) (emb : (⟨2, ![32000, 512]⟩ : Shape).Idx → α) :
    (⟨2, ![1024, 512]⟩ : Shape).Idx → α :=
  fun p => emb (ix2 ⟨(x (ix2 ⟨(p 0).val % 8, Nat.mod_lt _ (by decide)⟩ ⟨(p 0).val / 8, by have := idx2_lt0 p; omega⟩)).toNat % 32000, Nat.mod_lt _ (by decide)⟩ (p 1))

/-- Every index names a row of the table. -/
def InVocab (x : (⟨2, ![8, 128]⟩ : Shape).Idx → BitVec 32) : Prop := ∀ i, (x i).toNat < 32000

/-- What the precondition's comparison says of one index. -/
theorem toNat_lt_of_cmp (v : BitVec 32) (e : IntOp.andi (IntOp.cmpi .sge v 0#32) (IntOp.cmpi .slt v 32000#32) = 1#1) : v.toNat < 32000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition says that every index names a row of the table. -/
theorem inVocab_of_pre {F : FTy → Type} [FloatOps F] [Cert.Pre_in_vocab.Facts] (x : IVec ⟨2, ![8, 128]⟩ 32) (emb : FVec F ⟨2, ![32000, 512]⟩ .f32)
    (a2 : FVec F ⟨2, ![4096, 512]⟩ .f32) (a3 : FVec F ⟨2, ![4096, 1024]⟩ .f32) (a4 a5 : FVec F ⟨1, ![4096]⟩ .f32)
    (a6 a7 : FVec F ⟨2, ![4096, 1024]⟩ .f32) (a8 a9 : FVec F ⟨1, ![4096]⟩ .f32) (a10 : FVec F ⟨2, ![32000, 1024]⟩ .f32) (a11 : FVec F ⟨1, ![32000]⟩ .f32)
    (h : Cert.Pre_in_vocab.fn (F := F) x emb a2 a3 a4 a5 a6 a7 a8 a9 a10 a11 = fun _ => 1#1) : InVocab x := by
  intro i
  have e := congrFun h ix0
  haveI : Subsingleton (Cert.Pre_in_vocab.S_).Idx := ⟨fun a b => funext fun k => k.elim0⟩
  exact toNat_lt_of_cmp _ (Host.reduce_andi_all _ _ _ _ _ e i)

end Cert.Spec

end
-- ==== Proof.Ideal.Tile.lean ====
/-
  The SparseCore call of the program: thirty-two vector subcores (two cores of sixteen), each moving its 128 list
  entries into its scratch, gathering the 128 table rows they name into its row scratch and writing those to its 128
  rows of the result. What the call reads (the table, the list) and what it leaves in the result (`gath`) are carried
  as values from the start.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 5) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The semaphores the launch uses for its handshakes are distinct, and scoped as the machine asks. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

/-! ## The buffers -/

abbrev tLoc (d : Dev nD) : Loc nD τ sig := (SparseCore.T d).loc main_v2
abbrev xLoc (d : Dev nD) : Loc nD τ sig := (SparseCore.T d).loc main_v12
abbrev oLoc (d : Dev nD) : Loc nD τ sig := (SparseCore.T d).loc main_v13

local notation "tV" => (Memref.whole Cert.KernelIdeal.main_v2_scv : Memref Cert.KernelIdeal.sig Kind.scVector Space.hbm Cert.KernelIdeal.S128000x128 EltTy.f32)
local notation "xV" => (Memref.whole Cert.KernelIdeal.main_v12_scv : Memref Cert.KernelIdeal.sig Kind.scVector Space.hbm Cert.KernelIdeal.S1x4096 EltTy.i32)
local notation "oV" => (Memref.whole Cert.KernelIdeal.main_v13_scv : Memref Cert.KernelIdeal.sig Kind.scVector Space.hbm Cert.KernelIdeal.S4096x128 EltTy.f32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x128 EltTy.f32)

theorem xdiv : 32 ∣ S1x4096.size 1 := ⟨128, rfl⟩
theorem odiv : 32 ∣ S4096x128.size 0 := ⟨128, rfl⟩
abbrev xRect (k : Fin 32) : Rect S1x4096 := Rect.part (s := S1x4096) (a₀ := 1) xdiv k
abbrev oRect (k : Fin 32) : Rect S4096x128 := Rect.part (s := S4096x128) (a₀ := 0) odiv k
/-- The list entries and the result rows of task `k`. -/
abbrev xSet (k : Fin 32) : Finset S1x4096.Idx := ((xV).view.slice (xRect k)).set
abbrev oSet (k : Fin 32) : Finset S4096x128.Idx := ((oV).view.slice (oRect k)).set
/-- Task `k`'s share of the table. -/
abbrev tq (k : Fin 32) : PosShare TreeShare := Transfers.dealOf fullShare Finset.univ k

variable [FloatOps F]

/-! ## What the call computes -/

/-- The gathered rows: row `r` of the result is the table row the list's entry `r` names. -/
def gath (tb : S128000x128.Idx → Elt F .f32) (ix : S1x4096.Idx → Elt F .i32) : S4096x128.Idx → Elt F .f32 :=
  fun p => tb (fun | 0 => ⟨(ix (fun | 0 => ⟨0, by decide⟩ | 1 => ⟨(p 0).val, (p 0).isLt⟩)).toNat % 128000, Nat.mod_lt _ (by decide)⟩ | 1 => ⟨(p 1).val, (p 1).isLt⟩)

variable (tb : (d : Dev nD) → Buf (Elt F) (tLoc d)) (ix : (d : Dev nD) → Buf (Elt F) (xLoc d))

abbrev tPts (d : Dev nD) (k : Fin 32) : sProp 𝕄 := tLoc d ↦{tq k} tb d
abbrev xPts (d : Dev nD) (k : Fin 32) : sProp 𝕄 := xLoc d ↦[xSet k]{fullShare} ix d
abbrev oPts (d : Dev nD) (k : Fin 32) (f : Buf (Elt F) (oLoc d)) : sProp 𝕄 := oLoc d ↦[oSet k]{fullShare} f

/-- What task `k` is handed, -/
abbrev goP (d : Dev nD) (k : Fin 32) : sProp 𝕄 := iprop(xPts ix d k ∗ tPts tb d k ∗ ∃ f, oPts d k f)
/-- and what it brings back: its rows of the result at the gathered rows. -/
abbrev tdP (d : Dev nD) (k : Fin 32) : sProp 𝕄 := iprop(xPts ix d k ∗ tPts tb d k ∗ oPts d k (gath (tb d) (ix d)))

/-- Every entry of the list names a row of the table. -/
def InRows : Prop := ∀ (d : Dev nD) (j : S1x4096.Idx), (ix d j).toNat < 128000

/-! ## The task -/

section Tile

variable (d : Dev nD) (L : grid0.Coords)

abbrev cV (L : grid0.Coords) : Fin τ.nSC := (L 0).castLE hcore0
abbrev jV (L : grid0.Coords) : Fin τ.nSub := (L 1).castLE hsub0
/-- The task's number, `16 * core + subcore`. -/
abbrev kL (L : grid0.Coords) : Fin 32 := ⟨16 * (L 0).val + (L 1).val, by
  have h0 : (L 0).val < 2 := (L 0).isLt
  have h1 : (L 1).val < 16 := (L 1).isLt
  omega⟩

theorem cond1 : ∀ L : grid0.Coords, ¬ k0_cond1 L = 1#1 := by decide +kernel
theorem cond2 : ∀ L : grid0.Coords, k0_cond2 L = 1#1 := by decide +kernel
theorem cond5 : ∀ L : grid0.Coords, k0_cond5 L = 1#1 := by decide +kernel
theorem cond7 : ∀ L : grid0.Coords, ¬ k0_cond7 L = 1#1 := by decide +kernel

abbrev xUnit (L : grid0.Coords) : Rect S1x4096 := Rect.unit (s := S1x4096) (k0_off2 L) S1x128.size (k0_off2_inb L)
abbrev oUnit (L : grid0.Coords) : Rect S4096x128 := Rect.unit (s := S4096x128) (k0_off18 L) S128x128.size (k0_off18_inb L)
/-- The task's entries of the list and its rows of the result, as it addresses them. -/
abbrev xWin (L : grid0.Coords) : Memref sig .scVector .hbm S1x128 .i32 := (xV).slice (xUnit L) (fun _ => rfl)
abbrev oWin (L : grid0.Coords) : Memref sig .scVector .hbm S128x128 .f32 := (oV).slice (oUnit L) (fun _ => rfl)

omit [FloatOps F] in
theorem xUnit_eq : xUnit L = xRect (kL L) := by
  unfold xUnit xRect Rect.part Rect.block
  congr 1 <;> funext a
  · rw [k0_off2_eq]
    match a with
    | 0 => simp [Shape.partIx, Shape.partSize]
    | 1 => simp [Shape.partIx, Shape.partSize]; omega
  · match a with
    | 0 => simp [Shape.partSize]
    | 1 => simp [Shape.partSize]
omit [FloatOps F] in
theorem oUnit_eq : oUnit L = oRect (kL L) := by
  unfold oUnit oRect Rect.part Rect.block
  congr 1 <;> funext a
  · rw [k0_off18_eq]
    match a with
    | 0 => simp [Shape.partIx, Shape.partSize]; omega
    | 1 => simp [Shape.partIx, Shape.partSize]
  · match a with
    | 0 => simp [Shape.partSize]
    | 1 => simp [Shape.partSize]

omit [FloatOps F] in
theorem set_xWin : (xWin L).view.set = xSet (kL L) := by
  show ((xV).view.slice (xUnit L)).set = ((xV).view.slice (xRect (kL L))).set
  exact xUnit_eq L ▸ rfl
omit [FloatOps F] in
theorem set_oWin : (oWin L).view.set = oSet (kL L) := by
  show ((oV).view.slice (oUnit L)).set = ((oV).view.slice (oRect (kL L))).set
  exact oUnit_eq L ▸ rfl

omit [FloatOps F] in
theorem pts_xWin (f : Buf (Elt F) (xLoc d)) :
    ((xWin L).view.loc (V d (cV L) (jV L)) ↦[(xWin L).view.set]{fullShare} f : sProp 𝕄) = xLoc d ↦[xSet (kL L)]{fullShare} f := by
  rw [set_xWin]
omit [FloatOps F] in
theorem pts_oWin (f : Buf (Elt F) (oLoc d)) :
    ((oWin L).view.loc (V d (cV L) (jV L)) ↦[(oWin L).view.set]{fullShare} f : sProp 𝕄) = oLoc d ↦[oSet (kL L)]{fullShare} f := by
  rw [set_oWin]
omit [FloatOps F] in
theorem pts_tV (q : PosShare TreeShare) (f : Buf (Elt F) (tLoc d)) :
    ((tV).view.loc (V d (cV L) (jV L)) ↦{q} f : sProp 𝕄) = tLoc d ↦{q} f := rfl
omit [FloatOps F] in
theorem pts_sV (f : Buf (Elt F) ((V d (cV L) (jV L)).loc cc0_scoped0)) :
    ((sV).view.loc (V d (cV L) (jV L)) ↦{fullShare} f : sProp 𝕄) = (V d (cV L) (jV L)).loc cc0_scoped0 ↦{fullShare} f := rfl
omit [FloatOps F] in
theorem pts_rV (f : Buf (Elt F) ((V d (cV L) (jV L)).loc cc0_scoped2)) :
    ((rV).view.loc (V d (cV L) (jV L)) ↦{fullShare} f : sProp 𝕄) = (V d (cV L) (jV L)).loc cc0_scoped2 ↦{fullShare} f := rfl

/-- The three cells the task's transfers complete on: the list fetch's, the write-out's, the gather's. -/
abbrev sem0 : DmaSem sig := ((cc0_scoped1.slice (Rect.unit (s := S2) k0_off3 S1.size k0_off3_inb)).squeeze S_ squeezes_S1_S_).sem
abbrev sem2 (L : grid0.Coords) : DmaSem sig := ((cc0_scoped3.slice (Rect.unit (s := S2) (k0_off19 L) S1.size (k0_off19_inb L))).squeeze S_ squeezes_S1_S_).sem
abbrev semA : DmaSem sig := ((cc0_scoped1.slice (Rect.unit (s := S2) ![0] S1.size (by decide))).squeeze S_ squeezes_S1_S_).sem
abbrev semB : DmaSem sig := ((cc0_scoped3.slice (Rect.unit (s := S2) ![0] S1.size (by decide))).squeeze S_ squeezes_S1_S_).sem
abbrev cAcell (d : Dev nD) (c : Fin τ.nSC) (i : Fin τ.nSub) : GSem nD τ sig := (V d c i, .dma semA)
abbrev cBcell (d : Dev nD) (c : Fin τ.nSC) (i : Fin τ.nSub) : GSem nD τ sig := (V d c i, .dma semB)
abbrev cCcell (d : Dev nD) (c : Fin τ.nSC) (i : Fin τ.nSub) : GSem nD τ sig := (V d c i, .dma cc0_scoped4.sem)

omit [FloatOps F] in
/-- The subcore's own cells: those three, and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma semA : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma semB : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped4.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scoped0 ↦{fullShare} f) ∗ (∃ f, (V d (cV L) (jV L)).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- The staging window the fetch writes, and the list the gather reads: the same 128 words. -/
abbrev sWin : Memref sig .scVector .vmem S1x128 .i32 :=
  ((sV).slice (Rect.unit (s := S2x1x128) k0_off1 S1x1x128.size k0_off1_inb) (fun _ => rfl)).squeeze S1x128 squeezes_S1x1x128_S1x128
abbrev lWin : Memref sig .scVector .vmem S128 .i32 :=
  ((sWin).slice (Rect.unit (s := S1x128) ![0, 0] S1x128.size inb_S1x128_S1x128_0_0) (fun _ => rfl)).squeeze S128 squeezes_S1x128_S128

omit [FloatOps F] in
/-- Reading the list after the fetch gives the fetched words. -/
theorem read_lWin (fs : Buf (Elt F) ((V d (cV L) (jV L)).loc cc0_scoped0)) (pay : S1x128.Idx → Elt F .i32) (x : S128.Idx) :
    View.read (Elt F) (lWin).view (View.write (Elt F) (sWin).view fs pay Finset.univ) x
      = pay ((Rect.unit (s := S1x128) ![0, 0] S1x128.size inb_S1x128_S1x128_0_0).emb (Shape.reshapeEquiv squeezes_S1x128_S128.numel_eq x)) := by
  have e : View.read (Elt F) (lWin).view (View.write (Elt F) (sWin).view fs pay Finset.univ) x
      = View.read (Elt F) (sWin).view (View.write (Elt F) (sWin).view fs pay Finset.univ)
          ((Rect.unit (s := S1x128) ![0, 0] S1x128.size inb_S1x128_S1x128_0_0).emb (Shape.reshapeEquiv squeezes_S1x128_S128.numel_eq x)) := by
    rw [View.read_apply, View.read_apply]; rfl
  rw [e, View.read_write_univ]

omit [FloatOps F] in
/-- The write-out's cell, its slot number computed. -/
theorem slotB (h : ∀ a, k0_off19 L a + S1.size a ≤ S2.size a) :
    (cc0_scoped3.slice (Rect.unit (s := S2) (k0_off19 L) S1.size h)).squeeze S_ squeezes_S1_S_
      = (cc0_scoped3.slice (Rect.unit (s := S2) ![0] S1.size (by decide))).squeeze S_ squeezes_S1_S_ := by
  rw [SemArray.slice_unit_congr _ (k0_off19_eq L)]

omit [FloatOps F] in
/-- The fetched words are the list's entries of this task's block: entry `k` is the list's entry `128 (L 1) + 2048 (L 0) + k`. -/
theorem read_xWin (k : Fin 128) (y : S1x128.Idx) (hy : (y 1).val = k.val) (j : S1x4096.Idx)
    (hj : (j 1).val = 128 * (L 1).val + 2048 * (L 0).val + k.val) : (xWin L).view.read (Elt F) (ix d) y = ix d j := by
  have e : (xUnit L).emb y = j := by
    funext a
    apply Fin.ext
    show (k0_off2 L a) + 1 * (y a).val = _
    rw [k0_off2_eq]
    match a with
    | 0 => have h1 := (y 0).isLt; have h2 := (j 0).isLt; show 0 + 1 * (y 0).val = (j 0).val
           change _ < 1 at h1; change _ < 1 at h2; omega
    | 1 => show (128 * (L 1).val + 2048 * (L 0).val) + 1 * (y 1).val = (j 1).val
           omega
  rw [View.read_apply]
  show ix d ((xUnit L).emb y) = _
  rw [e]

/-- Row `r` of the block written out is the table's row the list's entry names. -/
theorem out_eq (hpre : InRows ix) (fo : Buf (Elt F) (oLoc d)) (w : S128x128.Idx → Elt F .f32) (fs : Buf (Elt F) ((V d (cV L) (jV L)).loc cc0_scoped0))
    (pay : S1x128.Idx → Elt F .i32) (hpay : pay = (xWin L).view.read (Elt F) (ix d))
    (hin : ∀ x, (View.read (Elt F) (lWin).view (View.write (Elt F) (sWin).view fs pay Finset.univ) x).toNat < 128000)
    (hw : w = SparseCore.gatherPayload gathers_S128000x128_S128x128
      (((tV).slice (Rect.unit (s := S128000x128) ![0, 0] S128000x128.size inb_S128000x128_S128000x128_0_0) (fun _ => rfl)).view.read (Elt F) (tb d))
      (SparseCore.rows (View.read (Elt F) (lWin).view (View.write (Elt F) (sWin).view fs pay Finset.univ)) (by decide) hin)) :
    ∀ p ∈ (oWin L).view.set, (oWin L).view.writes (Elt F) fo [⟨Rect.whole S128x128, w⟩] p = gath (tb d) (ix d) p := by
  intro p hp
  obtain ⟨y, -, rfl⟩ := Finset.mem_map.mp hp
  have h := congrFun (View.read_writes_whole (oWin L).view fo w) y
  rw [View.read_apply] at h
  refine Eq.trans h ?_
  subst hw
  unfold SparseCore.gatherPayload gath
  rw [View.read_apply]
  show tb d ((Rect.unit (s := S128000x128) ![0, 0] S128000x128.size inb_S128000x128_S128000x128_0_0).emb _) = tb d _
  congr 1
  funext a
  apply Fin.ext
  match a with
  | 0 =>
    have hr : ∀ (k : Fin 128) (hn : S128.numel = 128), (SparseCore.rows (View.read (Elt F) (lWin).view (View.write (Elt F) (sWin).view fs pay Finset.univ)) hn hin k).val
        = (pay (fun | 0 => ⟨0, by decide⟩ | 1 => k)).toNat := by
      intro k hn
      show (View.read (Elt F) (lWin).view _ _).toNat = _
      rw [read_lWin]
      refine congrArg (fun z => (pay z).toNat) (show Rect.emb _ _ = _ from ?_)
      rw [Shape.reshapeEquiv_eq_of_rowMajor (y := (fun | 0 => ⟨0, by decide⟩ | 1 => k : S1x128.Idx)) _ (by
        rw [Equiv.apply_symm_apply]
        exact (Shape.rowMajor_val_two _).trans (Nat.zero_add _))]
      funext b
      apply Fin.ext
      match b with
      | 0 => rfl
      | 1 => exact (Nat.zero_add _).trans (Nat.one_mul _)
    have e0 := congrArg Fin.val (Shape.Gathers.idx_axis gathers_S128000x128_S128x128
      (SparseCore.rows (View.read (Elt F) (lWin).view (View.write (Elt F) (sWin).view fs pay Finset.univ)) (by decide) hin) y)
    show 0 + 1 * (gathers_S128000x128_S128x128.idx _ y 0).val = (ix d _).toNat % 128000
    refine ((Nat.zero_add _).trans (Nat.one_mul _)).trans (e0.trans ((hr _ _).trans ?_))
    rw [hpay, read_xWin ix d L (y 0) _ rfl _ ?_, Nat.mod_eq_of_lt (hpre d _)]
    show (k0_off18 L 0) + 1 * (y 0).val = _
    rw [k0_off18_eq]
    show (128 * (L 1).val + 2048 * (L 0).val) + 1 * (y 0).val = _
    omega
  | 1 =>
    have e1 := Shape.Gathers.idx_of_ne gathers_S128000x128_S128x128
      (SparseCore.rows (View.read (Elt F) (lWin).view (View.write (Elt F) (sWin).view fs pay Finset.univ)) (by decide) hin) y 1 (by decide)
    show 0 + 1 * (gathers_S128000x128_S128x128.idx _ y 1).val = k0_off18 L 1 + 1 * (y 1).val
    refine ((Nat.zero_add _).trans (Nat.one_mul _)).trans (e1.trans ?_)
    rw [k0_off18_eq]
    exact ((Nat.zero_add _).trans (Nat.one_mul _)).symm

set_option maxHeartbeats 4000000 in
/-- The task on vector subcore `(L 0, L 1)`: the list fetch and its wait, the gather and its wait, the write-out and
    its wait; its rows of the result end at the gathered rows. -/
theorem tile_body (hF : (K (F := F)).Facts) (hpre : InRows ix) (O : CellTallies nD τ sig (HIx 1)) (W : Waits sig (HIx 1)) (hO : ∀ g, O g none = 0) :
    iprop(levAts (K (F := F)).L (K (F := F)).lev ∗ emp
        ∗ goP tb ix d (kL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L tV (Memref.isWhole_whole _) xV (Memref.isWhole_whole _) oV (Memref.isWhole_whole _)
            sV (Memref.isWhole_whole _) cc0_scoped1 rV (Memref.isWhole_whole _) cc0_scoped3 cc0_scoped4)
          fun _ => iprop(tdP tb ix d (kL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hc1 := cond1 L
  have hc2 := cond2 L
  have hc5 := cond5 L
  have hc7 := cond7 L
  simp only [cc0_gather_kernel_eq_skeleton]; unfold cc0_gather_kernel_skel
  simp only [k0_part5_skel, k0_part4_eq_skeleton, k0_part4_skel, k0_part3_eq_skeleton, k0_part3_skel,
    k0_part2_eq_skeleton, k0_part2_skel, k0_part1_eq_skeleton, k0_part1_skel, dif_neg hc1, dif_pos hc2, dif_pos hc5, dif_neg hc7]
  rw [(K (F := F)).scopedBufs_V hF d (cV L) (jV L), SparseCore.Cfg.scopedSems0_V (Val := Elt F) d (cV L) (jV L), ownSems0_V, ownBufs_V]
  iintro ⟨#Hlv, -, ⟨Hx, Ht, %fo, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xWin (F := F) d L _).symm) $$ Hx
  ihave Ho' := (Entails.of_eq (pts_oWin (F := F) d L _).symm) $$ Ho
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  sl_exec
  have hin : ∀ x, (View.read (Elt F) (lWin).view (View.write (Elt F) (sWin).view fs (tile_body.sl.dma0 ix d L) Finset.univ) x).toNat < 128000 := by
    intro x
    rw [read_lWin]
    exact hpre d _
  sl_exec
  rw [slotB]
  sl_exec
  have hout : ∀ p ∈ (oWin L).view.set, (oWin L).view.writes (Elt F) fo [⟨Rect.whole S128x128, tile_body.sl.dma0_1 tb ix d L hc5 fs fr hin⟩] p
      = gath (tb d) (ix d) p := by
    refine out_eq tb ix d L hpre fo _ fs _ rfl hin ?_
    unfold tile_body.sl.dma0_1 tile_body.sl.gather0
    exact View.read_write_univ _ _
  ihave Hx := (Entails.of_eq (pts_xWin (F := F) d L _)) $$ Hx'
  ihave Ho := (Entails.of_eq ((pointsTo_congr hout).trans (pts_oWin (F := F) d L _))) $$ Ho'
  sl_step
  isplitl [Hx Ht' Ho]
  · isplitl [Hx]; · iexact Hx
    isplitl [Ht']; · iexact Ht'
    iexact Ho
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _
  isplitr [HO]
  rotate_left
  · iexact HO
  ipureintro; intro p hp
  rcases Finset.mem_insert.mp hp with h | hp
  · exact .inr (h ▸ rfl)
  rcases Finset.mem_insert.mp hp with h | hp
  · exact .inr (h ▸ rfl)
  rcases Finset.mem_insert.mp hp with h | hp
  · exact .inr (h ▸ rfl)
  exact .inl hp

end Tile

end Cert.KernelIdeal.Sc
end
-- ==== Proof.Ideal.Call.lean ====
/-
  The SparseCore call seen from the program that makes it: what it is handed and gives back per SparseCore, the
  obligations of its tiles, and the call's rule over the program's arrays held whole (`wp_call`): it replaces the
  result's contents by the gathered rows and changes nothing else.
-/
module

public import proofs.«01_k».proof.Proof.Ideal.Tile

@[expose] public section

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "tV" => (Memref.whole Cert.KernelIdeal.main_v2_scv : Memref Cert.KernelIdeal.sig Kind.scVector Space.hbm Cert.KernelIdeal.S128000x128 EltTy.f32)
local notation "xV" => (Memref.whole Cert.KernelIdeal.main_v12_scv : Memref Cert.KernelIdeal.sig Kind.scVector Space.hbm Cert.KernelIdeal.S1x4096 EltTy.i32)
local notation "oV" => (Memref.whole Cert.KernelIdeal.main_v13_scv : Memref Cert.KernelIdeal.sig Kind.scVector Space.hbm Cert.KernelIdeal.S4096x128 EltTy.f32)
local notation "sV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x128x128 EltTy.f32)

variable (tb : (d : Dev nD) → Buf (Elt F) (tLoc d)) (ix : (d : Dev nD) → Buf (Elt F) (xLoc d))

/-- The number of the task on subcore `i` of SparseCore `c`. -/
def tk (c : Fin ((K (F := F)).nCore 0)) (i : Fin 16) : Fin 32 := ⟨16 * c.val + i.val, by have h : c.val < 2 := c.isLt; omega⟩

/-- What the call's signals carry: a SparseCore is handed its sixteen tasks' parts, and brings them back. -/
def P : (K (F := F)).Pay (nD := nD) (Val := Elt F) (Name := ℕ) (U := UU) where
  st := fun q d c => match q with | 0 => bigSep Finset.univ fun i : Fin 16 => goP tb ix d (tk c i)
  dn := fun q d c => match q with | 0 => bigSep Finset.univ fun i : Fin 16 => tdP tb ix d (tk c i)
  go := fun q d c i => match q with | 0 => goP tb ix d (tk c (Fin.cast nSub_zero i))
  td := fun q d c i => match q with | 0 => tdP tb ix d (tk c (Fin.cast nSub_zero i))
  x := fun _ _ => iprop(emp)

instance P_storable : (P (F := F) tb ix).IsStorable where
  st q d c := match q with
    | 0 => (inferInstance : BI.Storable (upEmb : UEmb _ 𝕄) (bigSep Finset.univ fun i : Fin 16 => goP tb ix d (tk c i)))
  dn q d c := match q with
    | 0 => (inferInstance : BI.Storable (upEmb : UEmb _ 𝕄) (bigSep Finset.univ fun i : Fin 16 => tdP tb ix d (tk c i)))
  go q d c i := match q with
    | 0 => (inferInstance : BI.Storable (upEmb : UEmb _ 𝕄) (goP tb ix d (tk c (Fin.cast nSub_zero i))))
  td q d c i := match q with
    | 0 => (inferInstance : BI.Storable (upEmb : UEmb _ 𝕄) (tdP tb ix d (tk c (Fin.cast nSub_zero i))))

/-! ## The obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) xV (Memref.isWhole_whole _) oV (Memref.isWhole_whole _)
          sV (Memref.isWhole_whole _) cc0_scoped1 rV (Memref.isWhole_whole _) cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task, run from what the call hands it, does what the call wants of it. -/
theorem tileObl (hF : (K (F := F)).Facts) (hpre : InRows ix) : (K (F := F)).TileObl (D (F := F)) 𝒱 (P tb ix) v₀ 0 := by
  intro d c i O W hO _ _
  simp only [show (P tb ix).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tb ix d (coordsV ⟨_, hci.1⟩ ⟨_, hci.2⟩) hF hpre O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's parts are its tiles' parts. -/
theorem vecSplit : (K (F := F)).VecSplit' (P tb ix) 0 := by
  intro d c
  show (bigSep Finset.univ fun i : Fin 16 => goP tb ix d (tk c i)) ⊢ |={Set.univ}=> iprop(
      (bigSep Finset.univ fun i : Fin ((K (F := F)).nSub 0) => goP tb ix d (tk c (Fin.cast nSub_zero i)))
      ∗ ((bigSep Finset.univ fun i : Fin ((K (F := F)).nSub 0) => tdP tb ix d (tk c (Fin.cast nSub_zero i)))
          -∗ bigSep Finset.univ fun i : Fin 16 => tdP tb ix d (tk c i)))
  rw [bigSep_tasks (F := F) (fun i => goP tb ix d (tk c i)), bigSep_tasks (F := F) (fun i => tdP tb ix d (tk c i))]
  iintro H; imodintro
  isplitl [H]; · iexact H
  iintro H; iexact H

/-! ## The whole arrays and the tasks' parts -/

omit [FloatOps F] in
theorem xSet_eq (k : Fin 32) : xSet k = (xRect k).set := by
  show ((View.whole (main_v12_scv : Ref sig .scVector)).slice (xRect k)).set = _
  rw [View.set_slice]; exact Finset.map_refl
omit [FloatOps F] in
theorem oSet_eq (k : Fin 32) : oSet k = (oRect k).set := by
  show ((View.whole (main_v13_scv : Ref sig .scVector)).slice (oRect k)).set = _
  rw [View.set_slice]; exact Finset.map_refl
omit [FloatOps F] in
theorem xSets_disjoint : ∀ i ∈ (Finset.univ : Finset (Fin 32)), ∀ j ∈ (Finset.univ : Finset (Fin 32)), i ≠ j → Disjoint (xSet i) (xSet j) :=
  fun i _ j _ h => by rw [xSet_eq, xSet_eq]; exact Rect.part_disjoint xdiv h
omit [FloatOps F] in
theorem oSets_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
omit [FloatOps F] in
theorem xSets_cover : (Finset.univ : Finset (Fin 32)).biUnion xSet = Finset.univ :=
  (Finset.biUnion_congr rfl fun i _ => xSet_eq i).trans (Rect.biUnion_part xdiv)
omit [FloatOps F] in
theorem oSets_cover : (Finset.univ : Finset (Fin 32)).biUnion oSet = Finset.univ :=
  (Finset.biUnion_congr rfl fun i _ => oSet_eq i).trans (Rect.biUnion_part odiv)

omit [FloatOps F] in
theorem xPts_parts (d : Dev nD) (f : Buf (Elt F) (xLoc d)) :
    (xLoc d ↦{fullShare} f : sProp 𝕄) = bigSep Finset.univ fun k : Fin 32 => xLoc d ↦[xSet k]{fullShare} f := by
  rw [← pointsTo_biUnion Finset.univ (ℓ := xLoc d) xSet xSets_disjoint, xSets_cover]; try rfl
omit [FloatOps F] in
theorem oPts_parts (d : Dev nD) (f : Buf (Elt F) (oLoc d)) :
    (oLoc d ↦{fullShare} f : sProp 𝕄) = bigSep Finset.univ fun k : Fin 32 => oLoc d ↦[oSet k]{fullShare} f := by
  rw [← pointsTo_biUnion Finset.univ (ℓ := oLoc d) oSet oSets_disjoint, oSets_cover]; try rfl
omit [FloatOps F] in
theorem tPts_shares (d : Dev nD) (f : Buf (Elt F) (tLoc d)) :
    (tLoc d ↦{fullShare} f : sProp 𝕄) = bigSep Finset.univ fun k : Fin 32 => tLoc d ↦{tq k} f :=
  Transfers.pointsTo_deal Finset.univ Finset.univ_nonempty fullShare

omit [FloatOps F] in
/-- The thirty-two tasks, by SparseCore and subcore. -/
theorem bigSep_cores (Φ : Fin 32 → sProp 𝕄) :
    bigSep Finset.univ Φ = bigSep Finset.univ fun c : Fin ((K (F := F)).nCore 0) => bigSep Finset.univ fun i : Fin 16 => Φ (tk (F := F) c i) := by
  rw [bigSep_univ_equiv (finProdFinEquiv (m := 2) (n := 16)), bigSep_univ_prod]
  exact bigSep_congr fun c _ => bigSep_congr fun i _ => congrArg Φ (Fin.ext (Nat.add_comm _ _))

/-- What the call is handed, from the three arrays whole, -/
theorem st_of_whole (d : Dev nD) :
    iprop((xLoc d ↦{fullShare} ix d) ∗ (tLoc d ↦{fullShare} tb d) ∗ ∃ f, oLoc d ↦{fullShare} f)
      ⊢ (bigSep Finset.univ fun c : Fin ((K (F := F)).nCore 0) => (P tb ix).st 0 d c : sProp 𝕄) := by
  show _ ⊢ bigSep Finset.univ fun c : Fin ((K (F := F)).nCore 0) => bigSep Finset.univ fun i : Fin 16 => goP tb ix d (tk c i)
  rw [← bigSep_cores (F := F) (fun k => goP tb ix d k), bigSep_sep', bigSep_sep', xPts_parts, tPts_shares]
  iintro ⟨Hx, Ht, %f, Ho⟩
  isplitl [Hx]; · iexact Hx
  isplitl [Ht]; · iexact Ht
  have h : (oLoc d ↦{fullShare} f : sProp 𝕄) ⊢ bigSep Finset.univ fun k : Fin 32 => iprop(∃ f, oPts d k f) := by
    rw [oPts_parts]
    exact bigSep_mono fun k _ => exists_intro (Φ := fun f => oPts d k f) f
  iapply h $$ Ho
/-- and what it gives back: the arrays whole again, the result at the gathered rows. -/
theorem whole_of_dn (d : Dev nD) :
    (bigSep Finset.univ fun c : Fin ((K (F := F)).nCore 0) => (P tb ix).dn 0 d c : sProp 𝕄)
      ⊢ iprop((xLoc d ↦{fullShare} ix d) ∗ (tLoc d ↦{fullShare} tb d) ∗ oLoc d ↦{fullShare} gath (tb d) (ix d)) := by
  show (bigSep Finset.univ fun c : Fin ((K (F := F)).nCore 0) => bigSep Finset.univ fun i : Fin 16 => tdP tb ix d (tk c i)) ⊢ _
  rw [← bigSep_cores (F := F) (fun k => tdP tb ix d k), bigSep_sep', bigSep_sep', xPts_parts, tPts_shares, oPts_parts]

/-! ## The call over the program's arrays -/

/-- The call's three arrays. -/
abbrev tR : DevRef τ sig := (Proc.tc : Proc τ).devRef main_v2
abbrev xR : DevRef τ sig := (Proc.tc : Proc τ).devRef main_v12
abbrev oR : DevRef τ sig := (Proc.tc : Proc τ).devRef main_v13

/-- The arrays after the call. -/
def callVal (W : Valuation τ sig (Elt F)) : Valuation τ sig (Elt F) := Function.update W oR (gath (W tR) (W xR))

theorem callVal_o (W : Valuation τ sig (Elt F)) : callVal W oR = gath (W tR) (W xR) := Function.update_self ..
theorem callVal_of_ne (W : Valuation τ sig (Elt F)) {b : DevRef τ sig} (h : b ≠ oR) : callVal W b = W b := Function.update_of_ne h ..

theorem held3 (d : Dev nD) (W : Valuation τ sig (Elt F)) :
    (StableHlo.held (T d) {xR, tR, oR} W : sProp 𝕄) = iprop((xLoc d ↦{fullShare} W xR) ∗ (tLoc d ↦{fullShare} W tR) ∗ oLoc d ↦{fullShare} W oR) := by
  unfold StableHlo.held
  rw [SparseCore.bigSep_insert' (by decide), SparseCore.bigSep_insert' (by decide), bigSep_singleton]

/-- The call from the program's arrays `U₀` held whole at `W d`: it ends with them at `callVal (W d)`. -/
theorem wp_call (U₀ : Finset (DevRef τ sig)) (hU : ({xR, tR, oR} : Finset (DevRef τ sig)) ⊆ U₀) (W : Dev nD → Valuation τ sig (Elt F))
    (κ : GSem nD τ sig → ℕ) (d : Dev nD) (Φ : PUnit → sProp 𝕄) :
    iprop((K (F := F)).ctx EH (P (fun d => W d tR) (fun d => W d xR)) κ ∗ (K (F := F)).tcSt EH d 0 ∗ StableHlo.held (T d) U₀ (W d)
        ∗ (((K (F := F)).tcSt EH d 1 ∗ StableHlo.held (T d) U₀ (callVal (W d))) -∗ Φ ⟨⟩))
      ⊢ wp frame (wpE ((K (F := F)).defs (D (F := F))) 𝒱 (T d) none) Set.univ ((K (F := F)).run d 0) Φ := by
  have hrest : (StableHlo.held (T d) (U₀ \ {xR, tR, oR}) (callVal (W d)) : sProp 𝕄) = StableHlo.held (T d) (U₀ \ {xR, tR, oR}) (W d) :=
    StableHlo.held_congr _ fun b hb => callVal_of_ne _ fun e => (Finset.mem_sdiff.mp hb).2 (by rw [e]; decide)
  rw [StableHlo.held_sub_split (T d) hU (W d), StableHlo.held_sub_split (T d) hU (callVal (W d)), hrest, held3, held3,
    callVal_o, callVal_of_ne (W d) (show xR ≠ oR by decide), callVal_of_ne (W d) (show tR ≠ oR by decide)]
  iintro ⟨#Hctx, Hst, ⟨⟨Hx, Ht, Ho⟩, Hrest⟩, Hk⟩
  iapply ((K (F := F)).wp_run (D (F := F)) 𝒱 (EH := EH) (P := P (fun d => W d tR) (fun d => W d xR)) κ d 0) $$ [Hst Hx Ht Ho Hrest Hk]
  isplitr; · iexact Hctx
  isplitl [Hst]; · iexact Hst
  isplitl [Hx Ht Ho]
  · iapply (st_of_whole (fun d => W d tR) (fun d => W d xR) d)
    isplitl [Hx]; · iexact Hx
    isplitl [Ht]; · iexact Ht
    iexists _; iexact Ho
  iintro ⟨Hst, Hdn⟩
  ihave H := (whole_of_dn (fun d => W d tR) (fun d => W d xR) d) $$ Hdn
  icases H with ⟨Hx, Ht, Ho⟩
  iapply Hk
  isplitl [Hst]; · iexact Hst
  isplitr [Hrest]
  · isplitl [Hx]; · iexact Hx
    isplitl [Ht]; · iexact Ht
    iexact Ho
  iexact Hrest

end Cert.KernelIdeal.Sc

end
-- ==== Proof.Ideal.TcBase.lean ====
/-
  The TensorCore calls of the program: the layout facts of the five pipelines, the ghost state of their
  staging cells, and one step of @main through a region. The thread state between regions is every
  unscoped array at a valuation, beside the SparseCore protocol's state after its call.
-/
module

public import proofs.«01_k».proof.Proof.Ideal.Call
public import Idealize.ShloMosaic.Lib.Pipeline.Kit
public import Idealize.ShloMosaic.Lib.Pipeline.RegionsLoop
public import Idealize.ShloMosaic.Lib.Pipeline.Frame
public import Idealize.ShloMosaic.Lib.Tactic

@[expose] public section

noncomputable section

namespace Cert.KernelIdeal.Sc

open Cert.KernelIdeal Cert.KernelIdeal.Gen

open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-! ## The layout of the five pipelines -/

/-- Each call's staging semaphores. -/
abbrev semTab : Fin 5 → List (DmaSem sig) :=
  fun | 0 => Pipeline.specSems spec1 | 1 => Pipeline.specSems spec2 | 2 => Pipeline.specSems spec3 | 3 => Pipeline.specSems spec4 | 4 => Pipeline.specSems spec5
theorem semsDistinct : ∀ p : Fin 5, (semTab p).Nodup := by decide
theorem semsDisjoint : ∀ p p' : Fin 5, p ≠ p' → (semTab p).Forall (· ∉ semTab p') := by decide
theorem cellOf_inj : Function.Injective (Pipeline.cellOf (nD := nD) (τ := τ) cfgs) :=
  Pipeline.cellOf_injective_of_table cfgs semTab (fun | 0 => rfl | 1 => rfl | 2 => rfl | 3 => rfl | 4 => rfl) semsDistinct semsDisjoint

theorem launch0 : Pipeline.LaunchFacts (nD := nD) (τ := τ) cfgs 0 :=
  ⟨cellOf_inj, (by decide : Pipeline.WinFacts spec1), (by decide : ∀ w : Fin 4, 0 < (spec1 w).block.numel),
    fun | 0 => Memref.isWhole_whole _ | 1 => Memref.isWhole_whole _ | 2 => Memref.isWhole_whole _ | 3 => Memref.isWhole_whole _,
    fun | 0 => fun _ => hstage1_0 0 | 1 => fun _ => hstage1_1 0 | 2 => fun _ => hstage1_2 0 | 3 => fun _ => hstage1_3 0⟩
theorem launch1 : Pipeline.LaunchFacts (nD := nD) (τ := τ) cfgs 1 :=
  ⟨cellOf_inj, (by decide : Pipeline.WinFacts spec2), (by decide : ∀ w : Fin 5, 0 < (spec2 w).block.numel),
    fun | 0 => Memref.isWhole_whole _ | 1 => Memref.isWhole_whole _ | 2 => Memref.isWhole_whole _ | 3 => Memref.isWhole_whole _ | 4 => Memref.isWhole_whole _,
    fun | 0 => fun s => hstage2_0 (s.cast nbuf2_0) | 1 => fun s => hstage2_1 (s.cast nbuf2_1) | 2 => fun s => hstage2_2 (s.cast nbuf2_2) | 3 => fun s => hstage2_3 (s.cast nbuf2_3) | 4 => fun s => hstage2_4 (s.cast nbuf2_4)⟩
theorem launch2 : Pipeline.LaunchFacts (nD := nD) (τ := τ) cfgs 2 :=
  ⟨cellOf_inj, (by decide : Pipeline.WinFacts spec3), (by decide : ∀ w : Fin 4, 0 < (spec3 w).block.numel),
    fun | 0 => Memref.isWhole_whole _ | 1 => Memref.isWhole_whole _ | 2 => Memref.isWhole_whole _ | 3 => Memref.isWhole_whole _,
    fun | 0 => fun _ => hstage3_0 0 | 1 => fun _ => hstage3_1 0 | 2 => fun _ => hstage3_2 0 | 3 => fun _ => hstage3_3 0⟩
theorem launch3 : Pipeline.LaunchFacts (nD := nD) (τ := τ) cfgs 3 :=
  ⟨cellOf_inj, (by decide : Pipeline.WinFacts spec4), (by decide : ∀ w : Fin 5, 0 < (spec4 w).block.numel),
    fun | 0 => Memref.isWhole_whole _ | 1 => Memref.isWhole_whole _ | 2 => Memref.isWhole_whole _ | 3 => Memref.isWhole_whole _ | 4 => Memref.isWhole_whole _,
    fun | 0 => fun s => hstage4_0 (s.cast nbuf4_0) | 1 => fun s => hstage4_1 (s.cast nbuf4_1) | 2 => fun s => hstage4_2 (s.cast nbuf4_2) | 3 => fun s => hstage4_3 (s.cast nbuf4_3) | 4 => fun s => hstage4_4 (s.cast nbuf4_4)⟩
theorem launch4 : Pipeline.LaunchFacts (nD := nD) (τ := τ) cfgs 4 :=
  ⟨cellOf_inj, (by decide : Pipeline.WinFacts spec5), (by decide : ∀ w : Fin 4, 0 < (spec5 w).block.numel),
    fun | 0 => Memref.isWhole_whole _ | 1 => Memref.isWhole_whole _ | 2 => Memref.isWhole_whole _ | 3 => Memref.isWhole_whole _,
    fun | 0 => fun s => hstage5_0 (s.cast nbuf5_0) | 1 => fun s => hstage5_1 (s.cast nbuf5_1) | 2 => fun s => hstage5_2 (s.cast nbuf5_2) | 3 => fun s => hstage5_3 (s.cast nbuf5_3)⟩

/-! ## The ghost state of the staging cells -/

/-- The pipelines' copy of the rounds algebra. -/
def EP : Emb UP (MT nD τ sig (HIx 1) (Elt F) ℕ UU ℕ) :=
  ((Emb.inl : Emb UP (UP × Counters)).trans (Emb.inr : Emb (UP × Counters) UU)).trans (uEmb (nD := nD) (τ := τ) (sig := sig) (Ix := HIx 1) (Val := Elt F) (Name := ℕ) (U := UU) (Lvl := ℕ)).toEmb
instance EP_landsIn : (EP : Emb UP 𝕄).LandsIn (upEmb : UEmb _ 𝕄) := by unfold EP; infer_instance

/-- No pipeline prefetches a table. -/
abbrev adm : (p : Fin 5) → (pcfgs (F := F) p).Adm := fun q => (cfgs q).toPCfg_adm

/-- What the launch deals core `d` for pipeline `p`. -/
abbrev gh (p : Fin 5) (d : Dev nD) : sProp 𝕄 :=
  iprop(Pipeline.cellsGhost (Pipeline.pin (pcfgs (F := F)) adm) EP p d ∗ Pipeline.toksInit (Pipeline.pin (pcfgs (F := F)) adm) EP p d)

/-! ## A region over the thread state -/

/-- The pairs a core's waits may have recorded once the SparseCore call is done. -/
def recB (d : Dev nD) : Set (SemLoc sig × HIx 1) := {q | (K (F := F)).lev ((SparseCore.T d : Thread nD τ), q.1) q.2 ≤ 8}

abbrev DatT (cfg : Cfg sig Λ₀) (c : Dev nD) : Type := Dat τ (Elt F) (HIx 1) ℕ UU ℕ cfg c

abbrev PDats : Type := (p : Fin 5) → (c : Dev nD) → Dat τ (Elt F) (HIx 1) ℕ UU ℕ (Pipeline.pin (pcfgs (F := F)) adm p) c

/-- A proof data for a pipeline a region does not run. -/
def junkDat {cfg : Cfg sig Λ₀} [∀ e, Nonempty (Elt F e)] (c : Dev nD) : Dat τ (Elt F) (HIx 1) ℕ UU ℕ cfg c where
  A _ := fun _ => Classical.arbitrary _
  after _ _ := fun _ => Classical.arbitrary _
  Φ _ := BI.emp
  q _ := fullShare
  owed _ := 0

/-- What a region's certificate supplies: the proof data's arrays read off the valuation `V`, full shares, nothing
    owed, the body's obligation, the invariant from the scoped buffers no window stages and back to them, and the
    valuation `V'` that has the windows' arrays at their final contents and agrees with `V` elsewhere. -/
structure RegionFacts (p : Fin 5) (pdats : PDats (F := F)) (V V' : Dev nD → Valuation τ sig (Elt F)) : Prop where
  launch : Pipeline.LaunchFacts (nD := nD) (τ := τ) cfgs p
  hA : ∀ c w, (pdats p c).A w = V c (Pipeline.arrRef ((pcfgs (F := F)) p).spec w)
  hq : ∀ c w, (pdats p c).q w = fullShare
  howed : ∀ c t, (pdats p c).owed t = 0
  hrec : ∀ c t, (pdats p c).recorded t = recB (F := F) c
  hbody : ∀ c, BodyObligation (pdats p c) (defs₀ (F := F)) 𝒱₀ none Set.univ
  hin : ∀ c, (Pipeline.scopedRest (Pipeline.pin (pcfgs (F := F)) adm p).spec c : sProp 𝕄) ⊢ (pdats p c).Φ 0
  hout : ∀ c, (pdats p c).Φ (Fin.last (Pipeline.pin (pcfgs (F := F)) adm p).N) ⊢ (Pipeline.scopedRest (Pipeline.pin (pcfgs (F := F)) adm p).spec c : sProp 𝕄)
  hfin : ∀ c w, (pdats p c).arrAt w (Pipeline.pin (pcfgs (F := F)) adm p).N = V' c (Pipeline.arrRef ((pcfgs (F := F)) p).spec w)
  hne : ∀ c (b : Ref sig .tc), b ∉ Finset.univ.image (Pipeline.arrRef (Pipeline.pin (pcfgs (F := F)) adm p).spec) → V' c b = V c b

theorem bound_rec {cfg : Cfg sig Λ₀} {c : Dev nD} (dat : Dat τ (Elt F) (HIx 1) ℕ UU ℕ cfg c) (t : Fin (cfg.N + 1)) (h : dat.recorded t = recB (F := F) c) :
    dat.bound none t ⊆ recB (F := F) c := by
  unfold Dat.bound
  rw [h]
  rintro q (hq | ⟨w, s, rfl⟩)
  · exact hq
  · show (K (F := F)).lev _ none ≤ 8
    exact Nat.zero_le _

variable {p : Fin 5} {pdats : PDats (F := F)} {V V' : Dev nD → Valuation τ sig (Elt F)}

set_option backward.isDefEq.respectTransparency.types false in
/-- The region over the thread state "every unscoped array at `V`, and the core's `owes`". -/
def reg (H : RegionFacts p pdats V V') : Pipeline.RegionSeg (pcfgs (F := F)) adm pdats (none : HIx 1) defs₀ 𝒱₀ (K (F := F)).L (K (F := F)).lev p where
  win := H.launch.win.to₀
  block_pos := H.launch.block_pos
  stage_whole := H.launch.stage_whole
  K := PEmpty
  osem k := k.elim
  ho := Pipeline.OwnSemFacts.none _
  hbody c := (H.hbody c).loose
  hwaits := Pipeline.hwaits_of_owed_zero _ _ _ _ _ _ p H.howed
  pre c := iprop(unscopedBufs c (fun b => V c b) ∗ ∃ W, ⌜∀ q ∈ W, q ∈ recB (F := F) c⌝ ∗ owes (c : Thread nD τ) (0 : CellTallies nD τ sig (HIx 1)) W)
  post c := iprop(unscopedBufs c (fun b => V' c b) ∗ ∃ W, ⌜∀ q ∈ W, q ∈ recB (F := F) c⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) ((pcfgs (F := F)) p).spec c (fun b => V c b))
  hentry c := by
    rw [Pipeline.ownSems0_none]
    have hsplit := Pipeline.arrays_of_unscopedBufs (p := p) (pcfgs (F := F)) adm pdats H.launch.win H.launch.arr_whole c
      ((pdats p c).share_full (H.hq c)) (fun b => V c b) (H.hA c)
    iintro ⟨⟨Hub, HO⟩, -, -⟩
    ihave H' := hsplit $$ Hub
    icases H' with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [H.howed c 0]
      icases HO with ⟨%W, %hW, HO⟩; iexists W; isplitr
      · ipureintro; unfold Dat.bound; rw [H.hrec c 0]; exact fun q hq => Or.inl (hW q (Finset.mem_coe.mp hq))
      iexact HO
    isplitr; · iempintro
    iexact Hrest
  hin c := by
    iintro ⟨-, -, Hr⟩; iapply (H.hin c); iexact Hr
  hout c := by
    rw [Pipeline.ownSems0_none]
    iintro Hr
    isplitr; · iempintro
    isplitr; · iempintro
    iapply (H.hout c); iexact Hr
  hexit c := by
    have hjoin := Pipeline.unscopedBufs_of_arrays (p := p) (pcfgs (F := F)) adm (Ix := HIx 1) (Name := ℕ) (U := UU) (Lvl := ℕ) H.launch.win H.launch.arr_whole c
      pdats ((pdats p c).share_full (H.hq c)) (fun b => V c b) (fun b => V' c b) ((pdats p c).arrAt · (Pipeline.pin (pcfgs (F := F)) adm p).N)
      (H.hfin c) (H.hne c)
    iintro ⟨Ha, HO, -, Hrest⟩
    imodintro
    isplitl [Ha Hrest]
    · iapply hjoin; isplitl [Ha] <;> iassumption
    unfold Pipeline.Dat.owesAt Pipeline.owesWithin
    rw [H.howed c]
    icases HO with ⟨%W, %hW, HO⟩; iexists W; isplitr
    · ipureintro; exact fun q hq => bound_rec _ _ (H.hrec c _) (hW (Finset.mem_coe.mpr hq))
    iexact HO

/-- The core's `owes` once the SparseCore call is done: nothing owed, the recorded pairs within `recB`. -/
def owes1 (d : Dev nD) : sProp 𝕄 := iprop(∃ W, ⌜∀ q ∈ W, q ∈ recB (F := F) d⌝ ∗ owes (d : Thread nD τ) (0 : CellTallies nD τ sig (HIx 1)) W)

/-- The protocol's state after the call, split at the core's `owes`. -/
theorem tcSt_split (d : Dev nD) : ∃ R : sProp 𝕄, ((K (F := F)).tcSt EH d 1 : sProp 𝕄) = iprop(owes1 (F := F) d ∗ R) := by
  have hO : (K (F := F)).Otc (nD := nD) (N := 1) d 1 = 0 := (K (F := F)).Otc_end d (le_refl 1)
  refine ⟨?_, ?_⟩
  case refine_2 =>
    unfold SparseCore.Cfg.tcSt
    rw [hO]
    exact rfl

theorem phinj' : Function.Injective (Pipeline.cellOf (nD := nD) (τ := τ) (Pipeline.pin (pcfgs (F := F)) adm)) := cellOf_inj

theorem wp_reg0 [∀ e, Nonempty (Elt F e)] (H : RegionFacts p pdats V V') (d : Dev nD) (Q : PUnit → sProp 𝕄) :
    iprop((iprop(boundary (d : Thread nD τ) ∗ (reg H).post d) -∗ Q ⟨⟩) ∗ boundary (d : Thread nD τ) ∗ (reg H).pre d
        ∗ levAts (K (F := F)).L (K (F := F)).lev ∗ gh p d)
      ⊢ wp frame (wpE (D (F := F)) 𝒱 (T d) none) Set.univ (Prog.lift (.customCall (Pipeline.entry p) ())) Q := by
  have h := Pipeline.RegionSeg.wp (pcfgs (F := F)) adm pdats (none : HIx 1) phinj' EP defs₀ 𝒱₀ (K (F := F)).L (K (F := F)).lev (reg H) d none (fun _ h => nomatch h) (fun _ => .ret ⟨⟩) Q
  refine .trans ?_ h
  iintro ⟨Hk, Hb, Hpre, Hlev, Hg, Ht⟩
  isplitl [Hk]
  · iintro Hx
    rw [wp_ret]
    imodintro
    iapply Hk; iexact Hx
  isplitl [Hb]; · iexact Hb
  isplitl [Hpre]; · iexact Hpre
  isplitl [Hlev]; · iexact Hlev
  isplitl [Hg]; · iexact Hg
  iexact Ht

/-- One step of @main through pipeline `p`'s region, from the arrays at `V` to the arrays at `V'`. -/
theorem wp_region [∀ e, Nonempty (Elt F e)] {PP : (K (F := F)).Pay (nD := nD) (Val := Elt F) (Name := ℕ) (U := UU)} (H : RegionFacts p pdats V V') (κ : GSem nD τ sig → ℕ) (d : Dev nD)
    (k : PUnit → Prog (TpuEff nD τ sig (Elt F) (SparseCore.Sig (ΛP (F := F)) 1) .tc) PUnit) (Q : PUnit → sProp 𝕄) :
    iprop((K (F := F)).ctx EH PP κ ∗ (K (F := F)).tcSt EH d 1 ∗ boundary (d : Thread nD τ) ∗ StableHlo.held (T d) (Pipeline.ucRefs τ sig) (V d) ∗ gh p d
        ∗ (iprop((K (F := F)).tcSt EH d 1 ∗ boundary (d : Thread nD τ) ∗ StableHlo.held (T d) (Pipeline.ucRefs τ sig) (V' d))
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry p)) ()) >>= k) Q := by
  obtain ⟨R, hR⟩ := tcSt_split (F := F) d
  rw [hR, wp_bind]
  have hl := (K (F := F)).wp_liftProg (D (F := F)) 𝒱 (T d) Set.univ none (Prog.lift (.customCall (Pipeline.entry p) ()))
    (fun x => wp frame (wpE ((K (F := F)).defs (D (F := F))) 𝒱 (T d) none) Set.univ (k x) Q)
  refine .trans ?_ hl
  refine .trans ?_ (wp_reg0 H d _)
  have hu : ∀ W : Valuation τ sig (Elt F), (unscopedBufs d (fun b => W b) : sProp 𝕄) = StableHlo.held (T d) (Pipeline.ucRefs τ sig) W :=
    fun W => Pipeline.unscopedBufs_held (Ix := HIx 1) (Name := ℕ) (U := UU) (Lvl := ℕ) d W
  rw [show (reg H).pre d = iprop(StableHlo.held (T d) (Pipeline.ucRefs τ sig) (V d) ∗ owes1 (F := F) d) from by rw [← hu]; rfl,
    show (reg H).post d = iprop(StableHlo.held (T d) (Pipeline.ucRefs τ sig) (V' d) ∗ owes1 (F := F) d) from by rw [← hu]; rfl]
  iintro ⟨#Hctx, ⟨HO, HR⟩, Hb, Hh, Hg, Hk⟩
  ihave #Hlev := (SparseCore.Cfg.ctx_levAts (K := K (F := F)) (EH := EH) (P := PP) κ) $$ Hctx
  isplitl [Hk HR]
  · iintro ⟨Hb, Hh, HO⟩
    iapply Hk
    isplitl [HO HR]
    · isplitl [HO]; · iexact HO
      iexact HR
    isplitl [Hb]; · iexact Hb
    iexact Hh
  isplitl [Hb]; · iexact Hb
  isplitl [Hh HO]
  · isplitl [Hh]; · iexact Hh
    iexact HO
  isplitr; · iexact Hlev
  iexact Hg

end Cert.KernelIdeal.Sc

end
-- ==== Proof.Ideal.TcGatesA.lean ====
/-
  The call `in_gates` of the first layer (pipeline 0): its body's run, its proof data, and the facts its
  region needs. It has one grid point; its result array ends holding the products plus the row of biases.
-/
module

public import proofs.«01_k».proof.Proof.Ideal.TcBase
public import Idealize.ShloMosaic.Lib.Pipeline.FrameBody
public import Idealize.ShloMosaic.Lib.Pipeline.Value
public import Idealize.ShloMosaic.Lib.VecWindow
public import Idealize.ShloMosaic.Lib.Pipeline.ValueKit

@[expose] public section

noncomputable section

namespace Cert.KernelIdeal.Sc

open Cert.KernelIdeal Cert.KernelIdeal.Gen

open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

set_option maxRecDepth 16384

/-- The body run over whole buffers: the three operands come back as they were, the result's holds
    `k1_pay1` of them. -/
theorem run1 [∀ e, Nonempty (Elt F e)] (c : Dev nD)
    (M0 : Memref sig .tc .vmem S1024x512 .bf16) (h0 : M0.IsWhole) (M1 : Memref sig .tc .vmem S512x4096 .bf16) (h1 : M1.IsWhole)
    (M2 : Memref sig .tc .vmem S1x4096 .f32) (h2 : M2.IsWhole) (M3 : Memref sig .tc .vmem S1024x4096 .f32) (h3 : M3.IsWhole)
    (x0 : Vec F S1024x512 .bf16) (x1 : Vec F S512x4096 .bf16) (x2 : Vec F S1x4096 .f32) (x3 : Vec F S1024x4096 .f32)
    (E : Set ℕ) (Q : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3
        ∗ (iprop(owns (c : Thread nD τ) M0 fullShare x0 ∗ owns (c : Thread nD τ) M1 fullShare x1 ∗ owns (c : Thread nD τ) M2 fullShare x2
            ∗ owns (c : Thread nD τ) M3 fullShare (k1_pay1 x0 x1 x2)) -∗ Q ⟨⟩))
      ⊢ wp frame (wpE (defs₀ (F := F)) Variants.none c none) E (cc1_body M0 h0 M1 h1 M2 h2 M3 h3) Q := by
  simp only [cc1_body_eq_skeleton]
  unfold cc1_body_skel
  unfold owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; · iexists f0; isplitr; · itrivial
                  iexact H0
  isplitl [H1]; · iexists f1; isplitr; · itrivial
                  iexact H1
  isplitl [H2]; · iexists f2; isplitr; · itrivial
                  iexact H2
  iexists _; isplitr; swap; · iexact H3
  ipureintro
  refine (View.read_writes_full _ _ _ _ _).trans ?_
  exact congr (congr (congrArg k1_pay1 (View.readAt_full _ _ _)) (View.readAt_full _ _ _)) (View.readAt_full _ _ _)

/-! ## The proof data, at an entry valuation -/

variable (V : Dev nD → Valuation τ sig (Elt F))

/-- What the call leaves in its result's array. -/
def gates1 (c : Dev nD) : Vec F S1024x4096 .f32 := k1_pay1 (V c main_v15) (V c main_v17) (V c main_v19)

/-- The valuation after the call: the result's array holds `gates1`, the others what they held. -/
def val1 (c : Dev nD) : Valuation τ sig (Elt F) := Function.update (V c) main_v20 (gates1 V c)

/-- The block of window `w`'s array at point `t`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The call's proof data from the valuation `V`: the operands' buffers keep their arrays, the result's gets `gates1`. -/
def dat1 (c : Dev nD) : Dat τ (Elt F) (HIx 1) ℕ UU ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => gates1 V c
  Φ _ := Pipeline.scopedRest spec1 c
  q _ := fullShare
  owed _ := 0
  recorded _ := recB (F := F) c

/-- The family of the call: its own data at pipeline 0. -/
def pd1 [∀ e, Nonempty (Elt F e)] : PDats (F := F)
  | ⟨0, _⟩ => fun c => dat1 V c
  | ⟨1, _⟩ => fun c => junkDat c
  | ⟨2, _⟩ => fun c => junkDat c
  | ⟨3, _⟩ => fun c => junkDat c
  | ⟨4, _⟩ => fun c => junkDat c

theorem cfg1_N : (cfg1).N = 1 := by decide

/-- The one point. -/
abbrev pt1 : Fin cfg1.N := ⟨0, by decide⟩
theorem eq_pt1 (t : Fin cfg1.N) : t = pt1 := Fin.ext (by have := t.isLt; have := cfg1_N; show t.val = 0; omega)

theorem idx1_0 (t : Fin cfg1.N) (a) : win1_0.index t a = 0 := rfl
theorem idx1_1 (t : Fin cfg1.N) (a) : win1_1.index t a = 0 := rfl
theorem idx1_2 (t : Fin cfg1.N) (a) : win1_2.index t a = 0 := rfl

/-- The one point's block of an operand is its whole array. -/
theorem blk1_0 (c : Dev nD) (t : Fin cfg1.N) : blk1 V c 0 t = V c main_v15 := by
  unfold blk1; funext y; rw [View.read_apply]; blk_ext [idx1_0, idx1_1, idx1_2]
theorem blk1_1 (c : Dev nD) (t : Fin cfg1.N) : blk1 V c 1 t = V c main_v17 := by
  unfold blk1; funext y; rw [View.read_apply]; blk_ext [idx1_0, idx1_1, idx1_2]
theorem blk1_2 (c : Dev nD) (t : Fin cfg1.N) : blk1 V c 2 t = V c main_v19 := by
  unfold blk1; funext y; rw [View.read_apply]; blk_ext [idx1_0, idx1_1, idx1_2]

theorem before1_0 (c : Dev nD) (t : Fin cfg1.N) (d) : (dat1 V c).before 0 t d = blk1 V c 0 t :=
  ((dat1 V c).before_in_eq_fetched 0 rfl (fun _ => rfl) (fun _ _ _ => rfl) (fun t => rfl) t d).trans rfl
theorem before1_1 (c : Dev nD) (t : Fin cfg1.N) (d) : (dat1 V c).before 1 t d = blk1 V c 1 t :=
  ((dat1 V c).before_in_eq_fetched 1 rfl (fun _ => rfl) (fun _ _ _ => rfl) (fun t => rfl) t d).trans rfl
theorem before1_2 (c : Dev nD) (t : Fin cfg1.N) (d) : (dat1 V c).before 2 t d = blk1 V c 2 t :=
  ((dat1 V c).before_in_eq_fetched 2 rfl (fun _ => rfl) (fun _ _ _ => rfl) (fun t => rfl) t d).trans rfl

theorem defs₀_row1 (t : Fin cfg1.N) :
    (defs₀ (F := F)) .tc cfg1.body (cfg1.bodyArgs t (cfg1.slots t))
      = cc1_body (win1_0.stage (cfg1.slots t 0)) (hstage1_0 0) (win1_1.stage (cfg1.slots t 1)) (hstage1_1 0)
          (win1_2.stage (cfg1.slots t 2)) (hstage1_2 0) (win1_3.stage (cfg1.slots t 3)) (hstage1_3 0) := rfl

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bodyAt1 [∀ e, Nonempty (Elt F e)] (c : Dev nD) : BodyObligation (dat1 V c) (defs₀ (F := F)) 𝒱₀ none Set.univ := fun t => by
  rw [bigSep_four, bigSep_four, defs₀_row1]
  dsimp only
  rw [show (dat1 V c).Φ t.castSucc = Pipeline.scopedRest spec1 c from rfl, show (dat1 V c).Φ t.succ = Pipeline.scopedRest spec1 c from rfl,
    show (dat1 V c).owesAt none t.succ = (dat1 V c).owesAt none t.castSucc from rfl]
  iintro ⟨HΦ, HO, ⟨%d0, H0⟩, ⟨%d1, H1⟩, ⟨%d2, H2⟩, ⟨%d3, H3⟩⟩
  rw [before1_0, before1_1, before1_2]
  iapply (run1 c _ _ _ _ _ _ _ _ (blk1 V c 0 t) (blk1 V c 1 t) (blk1 V c 2 t) _ Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  rw [blk1_0, blk1_1, blk1_2]
  iexact H3

theorem fin1_3 (c : Dev nD) : (dat1 V c).arrAt 3 cfg1.N = gates1 V c := by
  refine (dat1 V c).arrAt_eq_of_after_last 3 pt1 (by decide +kernel) _ fun j => ?_
  rfl

set_option maxHeartbeats 1000000 in
/-- What the region of the call needs, from any valuation `V` to `val1 V`. -/
theorem facts1 [∀ e, Nonempty (Elt F e)] : RegionFacts (F := F) 0 (pd1 V) V (val1 V) where
  launch := launch0
  hA c w := rfl
  hq c w := rfl
  howed c t := rfl
  hrec c t := rfl
  hbody c := bodyAt1 V c
  hin c := by
    rw [show (pd1 V 0 c).Φ 0 = Pipeline.scopedRest spec1 c from rfl]
    iintro H; iexact H
  hout c := by
    rw [show (pd1 V 0 c).Φ _ = Pipeline.scopedRest spec1 c from rfl]
    iintro H; iexact H
  hfin c w := by
    have h0 : ∀ b : Ref sig .tc, b ≠ main_v20 → val1 V c b = V c b := fun b hb =>
      Function.update_of_ne (fun h => hb (Proc.devRef_injective _ h)) _ _
    fin_cases w
    · exact ((dat1 V c).arrAt_in 0 rfl _).trans (h0 main_v15 (by decide)).symm
    · exact ((dat1 V c).arrAt_in 1 rfl _).trans (h0 main_v17 (by decide)).symm
    · exact ((dat1 V c).arrAt_in 2 rfl _).trans (h0 main_v19 (by decide)).symm
    · exact (fin1_3 V c).trans (Function.update_self ((Proc.tc : Proc τ).devRef main_v20) (gates1 V c) (V c)).symm
  hne c b hb := by
    refine Function.update_of_ne (fun h => hb ?_) _ _
    exact Finset.mem_image.mpr ⟨(3 : Fin 4), Finset.mem_univ _, (Proc.devRef_injective _ h).symm⟩

end Cert.KernelIdeal.Sc
-- ==== Proof.Ideal.TcGatesB.lean ====
/-
  The call `in_gates` of the second layer (pipeline 2): its body's run, its proof data, and the facts its
  region needs. It has one grid point; its result array ends holding the products plus the row of biases.
-/
module

public import proofs.«01_k».proof.Proof.Ideal.TcGatesA
public import Idealize.ShloMosaic.Lib.Pipeline.FrameBody
public import Idealize.ShloMosaic.Lib.Pipeline.Value
public import Idealize.ShloMosaic.Lib.VecWindow
public import Idealize.ShloMosaic.Lib.Pipeline.ValueKit

@[expose] public section

noncomputable section

namespace Cert.KernelIdeal.Sc

open Cert.KernelIdeal Cert.KernelIdeal.Gen

open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

set_option maxRecDepth 16384

/-- The body run over whole buffers: the three operands come back as they were, the result's holds
    `k3_pay1` of them. -/
theorem run3 [∀ e, Nonempty (Elt F e)] (c : Dev nD)
    (M0 : Memref sig .tc .vmem S1024x1024 .bf16) (h0 : M0.IsWhole) (M1 : Memref sig .tc .vmem S1024x4096 .bf16) (h1 : M1.IsWhole)
    (M2 : Memref sig .tc .vmem S1x4096 .f32) (h2 : M2.IsWhole) (M3 : Memref sig .tc .vmem S1024x4096 .f32) (h3 : M3.IsWhole)
    (x0 : Vec F S1024x1024 .bf16) (x1 : Vec F S1024x4096 .bf16) (x2 : Vec F S1x4096 .f32) (x3 : Vec F S1024x4096 .f32)
    (E : Set ℕ) (Q : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3
        ∗ (iprop(owns (c : Thread nD τ) M0 fullShare x0 ∗ owns (c : Thread nD τ) M1 fullShare x1 ∗ owns (c : Thread nD τ) M2 fullShare x2
            ∗ owns (c : Thread nD τ) M3 fullShare (k3_pay1 x0 x1 x2)) -∗ Q ⟨⟩))
      ⊢ wp frame (wpE (defs₀ (F := F)) Variants.none c none) E (cc3_body M0 h0 M1 h1 M2 h2 M3 h3) Q := by
  simp only [cc3_body_eq_skeleton]
  unfold cc3_body_skel
  unfold owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; · iexists f0; isplitr; · itrivial
                  iexact H0
  isplitl [H1]; · iexists f1; isplitr; · itrivial
                  iexact H1
  isplitl [H2]; · iexists f2; isplitr; · itrivial
                  iexact H2
  iexists _; isplitr; swap; · iexact H3
  ipureintro
  refine (View.read_writes_full _ _ _ _ _).trans ?_
  exact congr (congr (congrArg k3_pay1 (View.readAt_full _ _ _)) (View.readAt_full _ _ _)) (View.readAt_full _ _ _)

/-! ## The proof data, at an entry valuation -/

variable (V : Dev nD → Valuation τ sig (Elt F))

/-- What the call leaves in its result's array. -/
def gates3 (c : Dev nD) : Vec F S1024x4096 .f32 := k3_pay1 (V c main_v26) (V c main_v28) (V c main_v30)

/-- The valuation after the call: the result's array holds `gates3`, the others what they held. -/
def val3 (c : Dev nD) : Valuation τ sig (Elt F) := Function.update (V c) main_v31 (gates3 V c)

/-- The block of window `w`'s array at point `t`. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The call's proof data from the valuation `V`: the operands' buffers keep their arrays, the result's gets `gates3`. -/
def dat3 (c : Dev nD) : Dat τ (Elt F) (HIx 1) ℕ UU ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => gates3 V c
  Φ _ := Pipeline.scopedRest spec3 c
  q _ := fullShare
  owed _ := 0
  recorded _ := recB (F := F) c

/-- The family of the call: its own data at pipeline 2. -/
def pd3 [∀ e, Nonempty (Elt F e)] : PDats (F := F)
  | ⟨0, _⟩ => fun c => junkDat c
  | ⟨1, _⟩ => fun c => junkDat c
  | ⟨2, _⟩ => fun c => dat3 V c
  | ⟨3, _⟩ => fun c => junkDat c
  | ⟨4, _⟩ => fun c => junkDat c

theorem cfg3_N : (cfg3).N = 1 := by decide

/-- The one point. -/
abbrev pt3 : Fin cfg3.N := ⟨0, by decide⟩
theorem eq_pt3 (t : Fin cfg3.N) : t = pt3 := Fin.ext (by have := t.isLt; have := cfg3_N; show t.val = 0; omega)

theorem idx3_0 (t : Fin cfg3.N) (a) : win3_0.index t a = 0 := rfl
theorem idx3_1 (t : Fin cfg3.N) (a) : win3_1.index t a = 0 := rfl
theorem idx3_2 (t : Fin cfg3.N) (a) : win3_2.index t a = 0 := rfl

/-- The one point's block of an operand is its whole array. -/
theorem blk3_0 (c : Dev nD) (t : Fin cfg3.N) : blk3 V c 0 t = V c main_v26 := by
  unfold blk3; funext y; rw [View.read_apply]; blk_ext [idx3_0, idx3_1, idx3_2]
theorem blk3_1 (c : Dev nD) (t : Fin cfg3.N) : blk3 V c 1 t = V c main_v28 := by
  unfold blk3; funext y; rw [View.read_apply]; blk_ext [idx3_0, idx3_1, idx3_2]
theorem blk3_2 (c : Dev nD) (t : Fin cfg3.N) : blk3 V c 2 t = V c main_v30 := by
  unfold blk3; funext y; rw [View.read_apply]; blk_ext [idx3_0, idx3_1, idx3_2]

theorem before3_0 (c : Dev nD) (t : Fin cfg3.N) (d) : (dat3 V c).before 0 t d = blk3 V c 0 t :=
  ((dat3 V c).before_in_eq_fetched 0 rfl (fun _ => rfl) (fun _ _ _ => rfl) (fun t => rfl) t d).trans rfl
theorem before3_1 (c : Dev nD) (t : Fin cfg3.N) (d) : (dat3 V c).before 1 t d = blk3 V c 1 t :=
  ((dat3 V c).before_in_eq_fetched 1 rfl (fun _ => rfl) (fun _ _ _ => rfl) (fun t => rfl) t d).trans rfl
theorem before3_2 (c : Dev nD) (t : Fin cfg3.N) (d) : (dat3 V c).before 2 t d = blk3 V c 2 t :=
  ((dat3 V c).before_in_eq_fetched 2 rfl (fun _ => rfl) (fun _ _ _ => rfl) (fun t => rfl) t d).trans rfl

theorem defs₀_row3 (t : Fin cfg3.N) :
    (defs₀ (F := F)) .tc cfg3.body (cfg3.bodyArgs t (cfg3.slots t))
      = cc3_body (win3_0.stage (cfg3.slots t 0)) (hstage3_0 0) (win3_1.stage (cfg3.slots t 1)) (hstage3_1 0)
          (win3_2.stage (cfg3.slots t 2)) (hstage3_2 0) (win3_3.stage (cfg3.slots t 3)) (hstage3_3 0) := rfl

theorem bodyAt3 [∀ e, Nonempty (Elt F e)] (c : Dev nD) : BodyObligation (dat3 V c) (defs₀ (F := F)) 𝒱₀ none Set.univ := fun t => by
  rw [bigSep_four, bigSep_four, defs₀_row3]
  dsimp only
  rw [show (dat3 V c).Φ t.castSucc = Pipeline.scopedRest spec3 c from rfl, show (dat3 V c).Φ t.succ = Pipeline.scopedRest spec3 c from rfl,
    show (dat3 V c).owesAt none t.succ = (dat3 V c).owesAt none t.castSucc from rfl]
  iintro ⟨HΦ, HO, ⟨%d0, H0⟩, ⟨%d1, H1⟩, ⟨%d2, H2⟩, ⟨%d3, H3⟩⟩
  rw [before3_0, before3_1, before3_2]
  iapply (run3 c _ _ _ _ _ _ _ _ (blk3 V c 0 t) (blk3 V c 1 t) (blk3 V c 2 t) _ Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  rw [blk3_0, blk3_1, blk3_2]
  iexact H3

theorem fin3_3 (c : Dev nD) : (dat3 V c).arrAt 3 cfg3.N = gates3 V c := by
  refine (dat3 V c).arrAt_eq_of_after_last 3 pt3 (by decide +kernel) _ fun j => ?_
  rfl

set_option maxHeartbeats 1000000 in
/-- What the region of the call needs, from any valuation `V` to `val3 V`. -/
theorem facts3 [∀ e, Nonempty (Elt F e)] : RegionFacts (F := F) 2 (pd3 V) V (val3 V) where
  launch := launch2
  hA c w := rfl
  hq c w := rfl
  howed c t := rfl
  hrec c t := rfl
  hbody c := bodyAt3 V c
  hin c := by
    rw [show (pd3 V 2 c).Φ 0 = Pipeline.scopedRest spec3 c from rfl]
    iintro H; iexact H
  hout c := by
    rw [show (pd3 V 2 c).Φ _ = Pipeline.scopedRest spec3 c from rfl]
    iintro H; iexact H
  hfin c w := by
    have h0 : ∀ b : Ref sig .tc, b ≠ main_v31 → val3 V c b = V c b := fun b hb =>
      Function.update_of_ne (fun h => hb (Proc.devRef_injective _ h)) _ _
    fin_cases w
    · exact ((dat3 V c).arrAt_in 0 rfl _).trans (h0 main_v26 (by decide)).symm
    · exact ((dat3 V c).arrAt_in 1 rfl _).trans (h0 main_v28 (by decide)).symm
    · exact ((dat3 V c).arrAt_in 2 rfl _).trans (h0 main_v30 (by decide)).symm
    · exact (fin3_3 V c).trans (Function.update_self ((Proc.tc : Proc τ).devRef main_v31) (gates3 V c) (V c)).symm
  hne c b hb := by
    refine Function.update_of_ne (fun h => hb ?_) _ _
    exact Finset.mem_image.mpr ⟨(3 : Fin 4), Finset.mem_univ _, (Proc.devRef_injective _ h).symm⟩

end Cert.KernelIdeal.Sc
-- ==== Proof.Ideal.TcGatesC.lean ====
/-
  The call `fc` (pipeline 4): its body's run, its proof data, and the facts its region needs. It has ten
  grid points, one for each 3200 columns of the result; the result's array ends holding, at every column,
  what the body leaves for the block of columns it lies in.
-/
module

public import proofs.«01_k».proof.Proof.Ideal.TcGatesA
public import Idealize.ShloMosaic.Lib.Pipeline.FrameBody
public import Idealize.ShloMosaic.Lib.Pipeline.Value
public import Idealize.ShloMosaic.Lib.VecWindow
public import Idealize.ShloMosaic.Lib.Pipeline.ValueKit

@[expose] public section

noncomputable section

namespace Cert.KernelIdeal.Sc

open Cert.KernelIdeal Cert.KernelIdeal.Gen

open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

set_option maxRecDepth 16384

/-- The body run over whole buffers: the three operands come back as they were, the result's holds
    `k5_pay1` of them. -/
theorem run5 [∀ e, Nonempty (Elt F e)] (c : Dev nD) (g : grid5.Coords)
    (M0 : Memref sig .tc .vmem S1024x1024 .bf16) (h0 : M0.IsWhole) (M1 : Memref sig .tc .vmem S1024x3200 .bf16) (h1 : M1.IsWhole)
    (M2 : Memref sig .tc .vmem S1x3200 .f32) (h2 : M2.IsWhole) (M3 : Memref sig .tc .vmem S1024x3200 .f32) (h3 : M3.IsWhole)
    (x0 : Vec F S1024x1024 .bf16) (x1 : Vec F S1024x3200 .bf16) (x2 : Vec F S1x3200 .f32) (x3 : Vec F S1024x3200 .f32)
    (E : Set ℕ) (Q : PUnit → sProp 𝕄) :
    iprop(owns (c : Thread nD τ) M0 fullShare x0 ∗ owns (c : Thread nD τ) M1 fullShare x1 ∗ owns (c : Thread nD τ) M2 fullShare x2 ∗ owns (c : Thread nD τ) M3 fullShare x3
        ∗ (iprop(owns (c : Thread nD τ) M0 fullShare x0 ∗ owns (c : Thread nD τ) M1 fullShare x1 ∗ owns (c : Thread nD τ) M2 fullShare x2
            ∗ owns (c : Thread nD τ) M3 fullShare (k5_pay1 x0 x1 x2)) -∗ Q ⟨⟩))
      ⊢ wp frame (wpE (defs₀ (F := F)) Variants.none c none) E (cc5_body g M0 h0 M1 h1 M2 h2 M3 h3) Q := by
  simp only [cc5_body_eq_skeleton]
  unfold cc5_body_skel
  unfold owns
  iintro ⟨⟨%f0, %hf0, H0⟩, ⟨%f1, %hf1, H1⟩, ⟨%f2, %hf2, H2⟩, ⟨%f3, -, H3⟩, Hk⟩
  subst hf0 hf1 hf2
  sl_exec
  sl_step
  iapply Hk
  isplitl [H0]; · iexists f0; isplitr; · itrivial
                  iexact H0
  isplitl [H1]; · iexists f1; isplitr; · itrivial
                  iexact H1
  isplitl [H2]; · iexists f2; isplitr; · itrivial
                  iexact H2
  iexists _; isplitr; swap; · iexact H3
  ipureintro
  refine (View.read_writes_full _ _ _ _ _).trans ?_
  exact congr (congr (congrArg k5_pay1 (View.readAt_full _ _ _)) (View.readAt_full _ _ _)) (View.readAt_full _ _ _)

/-! ## The proof data, at an entry valuation -/

variable (V : Dev nD → Valuation τ sig (Elt F))

/-- Columns `3200·k …` of the weights. -/
def wcol (X : Vec F S1024x32000 .bf16) (k : Fin 10) : Vec F S1024x3200 .bf16 :=
  fun y => X (ix2 (y 0) ⟨k.val * 3200 + (y 1).val, by have h1 : (y 1).val < 3200 := (y 1).isLt; have := k.isLt; omega⟩)
/-- Columns `3200·k …` of the row of biases. -/
def bcol (X : Vec F S1x32000 .f32) (k : Fin 10) : Vec F S1x3200 .f32 :=
  fun y => X (ix2 (y 0) ⟨k.val * 3200 + (y 1).val, by have h1 : (y 1).val < 3200 := (y 1).isLt; have := k.isLt; omega⟩)

/-- The result of the call from its operands, column block by column block. -/
def fcVal (X : Vec F S1024x1024 .bf16) (W : Vec F S1024x32000 .bf16) (B : Vec F S1x32000 .f32) : Vec F S1024x32000 .f32 := fun i =>
  k5_pay1 X (wcol W ⟨(i 1).val / 3200, by have h1 : (i 1).val < 32000 := (i 1).isLt; omega⟩)
    (bcol B ⟨(i 1).val / 3200, by have h1 : (i 1).val < 32000 := (i 1).isLt; omega⟩)
    (ix2 (i 0) ⟨(i 1).val % 3200, Nat.mod_lt _ (by decide)⟩)

theorem fcVal_at (X : Vec F S1024x1024 .bf16) (W : Vec F S1024x32000 .bf16) (B : Vec F S1x32000 .f32) (k : Fin 10) (y : S1024x3200.Idx)
    (i : S1024x32000.Idx) (h0 : (i 0).val = (y 0).val) (h1 : (i 1).val = k.val * 3200 + (y 1).val) :
    fcVal X W B i = k5_pay1 X (wcol W k) (bcol B k) y := by
  have hy : (y 1).val < 3200 := (y 1).isLt
  have hk : (⟨(i 1).val / 3200, by have h1 : (i 1).val < 32000 := (i 1).isLt; omega⟩ : Fin 10) = k := Fin.ext (by show (i 1).val / 3200 = _; omega)
  unfold fcVal
  rw [hk]
  refine congrArg _ (funext fun a => ?_)
  match a with
  | ⟨0, _⟩ => exact Fin.ext h0
  | ⟨1, _⟩ => exact Fin.ext (by show (i 1).val % 3200 = (y 1).val; omega)

/-- What the call leaves in its result's array. -/
def gates5 (c : Dev nD) : Vec F S1024x32000 .f32 := fcVal (V c main_v38) (V c main_v40) (V c main_v41)

/-- The valuation after the call: the result's array holds `gates5`, the others what they held. -/
def val5 (c : Dev nD) : Valuation τ sig (Elt F) := Function.update (V c) main_v42 (gates5 V c)

/-- The block of window `w`'s array at point `t`. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem cfg5_N : (cfg5).N = 10 := by decide

/-- A point as a block of columns. -/
abbrev pos5 (t : Fin cfg5.N) : Fin 10 := t.cast cfg5_N

/-- The call's proof data from the valuation `V`: the operands' buffers keep their arrays, the result's gets `gates5`. -/
def dat5 (c : Dev nD) : Dat τ (Elt F) (HIx 1) ℕ UU ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => k5_pay1 (V c main_v38) (wcol (V c main_v40) (pos5 t)) (bcol (V c main_v41) (pos5 t))
  Φ _ := Pipeline.scopedRest spec5 c
  q _ := fullShare
  owed _ := 0
  recorded _ := recB (F := F) c

/-- The family of the call: its own data at pipeline 2. -/
def pd5 [∀ e, Nonempty (Elt F e)] : PDats (F := F)
  | ⟨0, _⟩ => fun c => junkDat c
  | ⟨1, _⟩ => fun c => junkDat c
  | ⟨2, _⟩ => fun c => junkDat c
  | ⟨3, _⟩ => fun c => junkDat c
  | ⟨4, _⟩ => fun c => dat5 V c

theorem coord5 (t : Fin cfg5.N) : (grid5.coords t 0).val = t.val := by
  have := t.isLt; have := cfg5_N
  have e : (grid5.coords t 0).val = t.val / 1 % 10 := Pipeline.Grid.coords_val t 0 (by decide) rfl
  omega
theorem idx5_0 (t : Fin cfg5.N) (a) : win5_0.index t a = 0 := by
  match a with | ⟨0, _⟩ => rfl | ⟨1, _⟩ => rfl
theorem word5 (t : Fin cfg5.N) : (BitVec.ofNat 32 (grid5.coords t 0).val).toNat = t.val := by
  have := t.isLt; have := cfg5_N
  rw [coord5, BitVec.toNat_ofNat]; omega
theorem idx5_1 (t : Fin cfg5.N) : win5_1.index t = ![0, t.val] :=
  show ![0, (BitVec.ofNat 32 (grid5.coords t 0).val).toNat] = _ from by rw [word5]
theorem idx5_2 (t : Fin cfg5.N) : win5_2.index t = ![0, t.val] :=
  show ![0, (BitVec.ofNat 32 (grid5.coords t 0).val).toNat] = _ from by rw [word5]
theorem idx5_3 (t : Fin cfg5.N) : win5_3.index t = ![0, t.val] :=
  show ![0, (BitVec.ofNat 32 (grid5.coords t 0).val).toNat] = _ from by rw [word5]

/-- The operands' blocks at a point: the whole of the first, the point's columns of the other two. -/
theorem blk5_0 (c : Dev nD) (t : Fin cfg5.N) : blk5 V c 0 t = V c main_v38 := by
  unfold blk5; funext y; rw [View.read_apply]; blk_ext [idx5_0]
theorem blk5_1 (c : Dev nD) (t : Fin cfg5.N) : blk5 V c 1 t = wcol (V c main_v40) (pos5 t) := by
  unfold blk5 wcol; funext y; rw [View.read_apply]; blk_ext [idx5_1]; rfl
theorem blk5_2 (c : Dev nD) (t : Fin cfg5.N) : blk5 V c 2 t = bcol (V c main_v41) (pos5 t) := by
  unfold blk5 bcol; funext y; rw [View.read_apply]; blk_ext [idx5_2]; rfl

theorem before5_0 (c : Dev nD) (t : Fin cfg5.N) (d) : (dat5 V c).before 0 t d = blk5 V c 0 t :=
  ((dat5 V c).before_in_eq_fetched 0 rfl (fun _ => rfl) (fun _ _ _ => rfl) (fun t => rfl) t d).trans rfl
theorem before5_1 (c : Dev nD) (t : Fin cfg5.N) (d) : (dat5 V c).before 1 t d = blk5 V c 1 t :=
  ((dat5 V c).before_in_eq_fetched 1 rfl (fun _ => rfl) (fun _ _ _ => rfl) (fun t => rfl) t d).trans rfl
theorem before5_2 (c : Dev nD) (t : Fin cfg5.N) (d) : (dat5 V c).before 2 t d = blk5 V c 2 t :=
  ((dat5 V c).before_in_eq_fetched 2 rfl (fun _ => rfl) (fun _ _ _ => rfl) (fun t => rfl) t d).trans rfl

theorem defs₀_row5 (t : Fin cfg5.N) :
    (defs₀ (F := F)) .tc cfg5.body (cfg5.bodyArgs t (cfg5.slots t))
      = cc5_body (grid5.coords t) (win5_0.stage (cfg5.slots t 0)) (hstage5_0 ((cfg5.slots t 0).cast nbuf5_0))
          (win5_1.stage (cfg5.slots t 1)) (hstage5_1 ((cfg5.slots t 1).cast nbuf5_1))
          (win5_2.stage (cfg5.slots t 2)) (hstage5_2 ((cfg5.slots t 2).cast nbuf5_2))
          (win5_3.stage (cfg5.slots t 3)) (hstage5_3 ((cfg5.slots t 3).cast nbuf5_3)) := rfl

theorem bodyAt5 [∀ e, Nonempty (Elt F e)] (c : Dev nD) : BodyObligation (dat5 V c) (defs₀ (F := F)) 𝒱₀ none Set.univ := fun t => by
  rw [bigSep_four, bigSep_four, defs₀_row5]
  dsimp only
  rw [show (dat5 V c).Φ t.castSucc = Pipeline.scopedRest spec5 c from rfl, show (dat5 V c).Φ t.succ = Pipeline.scopedRest spec5 c from rfl,
    show (dat5 V c).owesAt none t.succ = (dat5 V c).owesAt none t.castSucc from rfl]
  iintro ⟨HΦ, HO, ⟨%d0, H0⟩, ⟨%d1, H1⟩, ⟨%d2, H2⟩, ⟨%d3, H3⟩⟩
  rw [before5_0, before5_1, before5_2]
  iapply (run5 c _ _ _ _ _ _ _ _ _ (blk5 V c 0 t) (blk5 V c 1 t) (blk5 V c 2 t) _ Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  rw [blk5_0, blk5_1, blk5_2]
  iexact H3

theorem fin5_3 (c : Dev nD) : (dat5 V c).arrAt 3 cfg5.N = gates5 V c := by
  refine (dat5 V c).arrAt_eq_of_covers 3 _ (by decide +kernel) fun t hf y => ?_
  refine Eq.trans ?_ (fcVal_at _ _ _ (pos5 t) y _ ?_ ?_).symm
  · rfl
  · blk_simp [idx5_3]
  · blk_simp [idx5_3]; rfl

set_option maxHeartbeats 1000000 in
/-- What the region of the call needs, from any valuation `V` to `val5 V`. -/
theorem facts5 [∀ e, Nonempty (Elt F e)] : RegionFacts (F := F) 4 (pd5 V) V (val5 V) where
  launch := launch4
  hA c w := rfl
  hq c w := rfl
  howed c t := rfl
  hrec c t := rfl
  hbody c := bodyAt5 V c
  hin c := by
    rw [show (pd5 V 4 c).Φ 0 = Pipeline.scopedRest spec5 c from rfl]
    iintro H; iexact H
  hout c := by
    rw [show (pd5 V 4 c).Φ _ = Pipeline.scopedRest spec5 c from rfl]
    iintro H; iexact H
  hfin c w := by
    have h0 : ∀ b : Ref sig .tc, b ≠ main_v42 → val5 V c b = V c b := fun b hb =>
      Function.update_of_ne (fun h => hb (Proc.devRef_injective _ h)) _ _
    fin_cases w
    · exact ((dat5 V c).arrAt_in 0 rfl _).trans (h0 main_v38 (by decide)).symm
    · exact ((dat5 V c).arrAt_in 1 rfl _).trans (h0 main_v40 (by decide)).symm
    · exact ((dat5 V c).arrAt_in 2 rfl _).trans (h0 main_v41 (by decide)).symm
    · exact (fin5_3 V c).trans (Function.update_self ((Proc.tc : Proc τ).devRef main_v42) (gates5 V c) (V c)).symm
  hne c b hb := by
    refine Function.update_of_ne (fun h => hb ?_) _ _
    exact Finset.mem_image.mpr ⟨(3 : Fin 4), Finset.mem_univ _, (Proc.devRef_injective _ h).symm⟩

end Cert.KernelIdeal.Sc
-- ==== Proof.Ideal.TcRecA.lean ====
/-
  The call `lstm_rec` of the first layer (pipeline 1): its body's run, its proof data, and the facts its region needs.
  It has 128 grid points, one for each time step. Two scratch buffers carry the hidden and the cell state from
  point to point; the first point writes zeros into them, the last copies them out.
-/
module

public import proofs.«01_k».proof.Proof.Ideal.TcGatesA
public import Idealize.ShloMosaic.Lib.Pipeline.FrameBody
public import Idealize.ShloMosaic.Lib.Pipeline.Value
public import Idealize.ShloMosaic.Lib.VecWindow
public import Idealize.ShloMosaic.Lib.Pipeline.ValueKit
public import Idealize.ShloMosaic.Lib.ValueIdx

@[expose] public section

noncomputable section

namespace Cert.KernelIdeal.Sc

open Cert.KernelIdeal Cert.KernelIdeal.Gen

open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

set_option maxRecDepth 16384

/-- The test that the point is the first, as the body computes it. -/
abbrev first2 (i : grid2.Coords) : BitVec 1 :=
  Scalar.cmpi .ne (Scalar.extui (Scalar.cmpi .eq (BitVec.ofNat 32 (i 0).val) 0#32) : BitVec 32) 0#32

/-- The state the point computes from: zeros at the first point, else what the scratch holds. -/
def from2 (b : Bool) (p : Vec F S8x1024 .f32 × Vec F S8x1024 .f32) : Vec F S8x1024 .f32 × Vec F S8x1024 .f32 :=
  if b then (k2_pay1, k2_pay2) else p

/-- One time step: the gates' row `x`, the weights `w`, the state before. -/
def step2 (x : Vec F S1x8x4096 .f32) (w : Vec F S1024x4096 .bf16) (p : Vec F S8x1024 .f32 × Vec F S8x1024 .f32) :
    Vec F S8x1024 .f32 × Vec F S8x1024 .f32 :=
  (k2_pay7 x p.1 w p.2, k2_pay6 x p.1 w p.2)

/-- The body at the first point: the states it computes from are zero. -/
theorem run2_first [∀ e, Nonempty (Elt F e)] (c : Dev nD) (i : grid2.Coords) (hc1 : first2 i = 1#1) (hc2 : ¬k2_cond2 i = 1#1)
    (M1 : Memref sig .tc .vmem S1x8x4096 .f32) (h1 : M1.IsWhole) (M2 : Memref sig .tc .vmem S1024x4096 .bf16) (h2 : M2.IsWhole)
    (M3 : Memref sig .tc .vmem S1x8x1024 .f32) (h3 : M3.IsWhole) (M4 : Memref sig .tc .vmem S8x1024 .f32) (h4 : M4.IsWhole)
    (M5 : Memref sig .tc .vmem S8x1024 .f32) (h5 : M5.IsWhole) (M6 : Memref sig .tc .vmem S8x1024 .f32) (h6 : M6.IsWhole)
    (M7 : Memref sig .tc .vmem S8x1024 .f32) (h7 : M7.IsWhole)
    (x1 : Vec F S1x8x4096 .f32) (x2 : Vec F S1024x4096 .bf16) (x3 : Vec F S1x8x1024 .f32) (x4 x5 xh xc : Vec F S8x1024 .f32)
    (E : Set ℕ) (Q : PUnit → sProp 𝕄) :
    iprop(owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5
        ∗ owns (c : Thread nD τ) M6 fullShare xh ∗ owns (c : Thread nD τ) M7 fullShare xc
        ∗ (iprop(owns (c : Thread nD τ) M1 fullShare x1 ∗ owns (c : Thread nD τ) M2 fullShare x2
            ∗ owns (c : Thread nD τ) M3 fullShare (k2_pay8 x1 (from2 true (xh, xc)).1 x2 (from2 true (xh, xc)).2)
            ∗ owns (c : Thread nD τ) M4 fullShare x4 ∗ owns (c : Thread nD τ) M5 fullShare x5
            ∗ owns (c : Thread nD τ) M6 fullShare (step2 x1 x2 (from2 true (xh, xc))).1 ∗ owns (c : Thread nD τ) M7 fullShare (step2 x1 x2 (from2 true (xh, xc))).2) -∗ Q ⟨⟩))
      ⊢ wp frame (wpE (defs₀ (F := F)) Variants.none c none) E (cc2_body i M1 h1 M2 h2 M3 h3 M4 h4 M5 h5 M6 h6 M7 h7) Q := by
  simp only [cc2_body_eq_skeleton]
  unfold cc2_body_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf4 hf5 hf6 hf7
  sl_exec (disch := first | sl_exact hc1 | sl_exact hc2)
  sl_step
  iapply Hk
  isplitl [H1]; · iexists f1; isplitr; · itrivial
                  iexact H1
  isplitl [H2]; · iexists f2; isplitr; · itrivial
                  iexact H2
  isplitl [H3]
  · iexists _; isplitr; swap; · iexact H3
    ipureintro
    refine (View.read_writes_full _ _ _ _ _).trans ?_
    exact congr (congr (congr (congrArg k2_pay8 (View.readAt_full _ _ _)) (View.readCov_full _ _ _ _ _)) (View.readAt_full _ _ _)) (View.readCov_full _ _ _ _ _)
  isplitl [H4]; · iexists f4; isplitr; · itrivial
                  iexact H4
  isplitl [H5]; · iexists f5; isplitr; · itrivial
                  iexact H5
  isplitl [H6]
  · iexists _; isplitr; swap; · iexact H6
    ipureintro
    refine (View.read_writes_full _ _ _ _ _).trans ?_
    exact congr (congr (congr (congrArg k2_pay7 (View.readAt_full _ _ _)) (View.readCov_full _ _ _ _ _)) (View.readAt_full _ _ _)) (View.readCov_full _ _ _ _ _)
  iexists _; isplitr; swap; · iexact H7
  ipureintro
  refine (View.read_writes_full _ _ _ _ _).trans ?_
  exact congr (congr (congr (congrArg k2_pay6 (View.readAt_full _ _ _)) (View.readCov_full _ _ _ _ _)) (View.readAt_full _ _ _)) (View.readCov_full _ _ _ _ _)

/-- The body at a point that is neither first nor last. -/
theorem run2_mid [∀ e, Nonempty (Elt F e)] (c : Dev nD) (i : grid2.Coords) (hc1 : ¬first2 i = 1#1) (hc2 : ¬k2_cond2 i = 1#1)
    (M1 : Memref sig .tc .vmem S1x8x4096 .f32) (h1 : M1.IsWhole) (M2 : Memref sig .tc .vmem S1024x4096 .bf16) (h2 : M2.IsWhole)
    (M3 : Memref sig .tc .vmem S1x8x1024 .f32) (h3 : M3.IsWhole) (M4 : Memref sig .tc .vmem S8x1024 .f32) (h4 : M4.IsWhole)
    (M5 : Memref sig .tc .vmem S8x1024 .f32) (h5 : M5.IsWhole) (M6 : Memref sig .tc .vmem S8x1024 .f32) (h6 : M6.IsWhole)
    (M7 : Memref sig .tc .vmem S8x1024 .f32) (h7 : M7.IsWhole)
    (x1 : Vec F S1x8x4096 .f32) (x2 : Vec F S1024x4096 .bf16) (x3 : Vec F S1x8x1024 .f32) (x4 x5 xh xc : Vec F S8x1024 .f32)
    (E : Set ℕ) (Q : PUnit → sProp 𝕄) :
    iprop(owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5
        ∗ owns (c : Thread nD τ) M6 fullShare xh ∗ owns (c : Thread nD τ) M7 fullShare xc
        ∗ (iprop(owns (c : Thread nD τ) M1 fullShare x1 ∗ owns (c : Thread nD τ) M2 fullShare x2
            ∗ owns (c : Thread nD τ) M3 fullShare (k2_pay8 x1 (from2 false (xh, xc)).1 x2 (from2 false (xh, xc)).2)
            ∗ owns (c : Thread nD τ) M4 fullShare x4 ∗ owns (c : Thread nD τ) M5 fullShare x5
            ∗ owns (c : Thread nD τ) M6 fullShare (step2 x1 x2 (from2 false (xh, xc))).1 ∗ owns (c : Thread nD τ) M7 fullShare (step2 x1 x2 (from2 false (xh, xc))).2) -∗ Q ⟨⟩))
      ⊢ wp frame (wpE (defs₀ (F := F)) Variants.none c none) E (cc2_body i M1 h1 M2 h2 M3 h3 M4 h4 M5 h5 M6 h6 M7 h7) Q := by
  simp only [cc2_body_eq_skeleton]
  unfold cc2_body_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf4 hf5 hf6 hf7
  sl_exec (disch := first | sl_exact hc1 | sl_exact hc2)
  sl_step
  iapply Hk
  isplitl [H1]; · iexists f1; isplitr; · itrivial
                  iexact H1
  isplitl [H2]; · iexists f2; isplitr; · itrivial
                  iexact H2
  isplitl [H3]
  · iexists _; isplitr; swap; · iexact H3
    ipureintro
    refine (View.read_writes_full _ _ _ _ _).trans ?_
    exact congr (congr (congr (congrArg k2_pay8 (View.readAt_full _ _ _)) (View.readAt_full _ _ _)) (View.readAt_full _ _ _)) (View.readAt_full _ _ _)
  isplitl [H4]; · iexists f4; isplitr; · itrivial
                  iexact H4
  isplitl [H5]; · iexists f5; isplitr; · itrivial
                  iexact H5
  isplitl [H6]
  · iexists _; isplitr; swap; · iexact H6
    ipureintro
    refine (View.read_writes_full _ _ _ _ _).trans ?_
    exact congr (congr (congr (congrArg k2_pay7 (View.readAt_full _ _ _)) (View.readAt_full _ _ _)) (View.readAt_full _ _ _)) (View.readAt_full _ _ _)
  iexists _; isplitr; swap; · iexact H7
  ipureintro
  refine (View.read_writes_full _ _ _ _ _).trans ?_
  exact congr (congr (congr (congrArg k2_pay6 (View.readAt_full _ _ _)) (View.readAt_full _ _ _)) (View.readAt_full _ _ _)) (View.readAt_full _ _ _)

/-- The body at the last point: the states are copied out too. -/
theorem run2_last [∀ e, Nonempty (Elt F e)] (c : Dev nD) (i : grid2.Coords) (hc1 : ¬first2 i = 1#1) (hc2 : k2_cond2 i = 1#1)
    (M1 : Memref sig .tc .vmem S1x8x4096 .f32) (h1 : M1.IsWhole) (M2 : Memref sig .tc .vmem S1024x4096 .bf16) (h2 : M2.IsWhole)
    (M3 : Memref sig .tc .vmem S1x8x1024 .f32) (h3 : M3.IsWhole) (M4 : Memref sig .tc .vmem S8x1024 .f32) (h4 : M4.IsWhole)
    (M5 : Memref sig .tc .vmem S8x1024 .f32) (h5 : M5.IsWhole) (M6 : Memref sig .tc .vmem S8x1024 .f32) (h6 : M6.IsWhole)
    (M7 : Memref sig .tc .vmem S8x1024 .f32) (h7 : M7.IsWhole)
    (x1 : Vec F S1x8x4096 .f32) (x2 : Vec F S1024x4096 .bf16) (x3 : Vec F S1x8x1024 .f32) (x4 x5 xh xc : Vec F S8x1024 .f32)
    (E : Set ℕ) (Q : PUnit → sProp 𝕄) :
    iprop(owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5
        ∗ owns (c : Thread nD τ) M6 fullShare xh ∗ owns (c : Thread nD τ) M7 fullShare xc
        ∗ (iprop(owns (c : Thread nD τ) M1 fullShare x1 ∗ owns (c : Thread nD τ) M2 fullShare x2
            ∗ owns (c : Thread nD τ) M3 fullShare (k2_pay8 x1 (from2 false (xh, xc)).1 x2 (from2 false (xh, xc)).2)
            ∗ owns (c : Thread nD τ) M4 fullShare (k2_pay5 x1 (from2 false (xh, xc)).1 x2 (from2 false (xh, xc)).2) ∗ owns (c : Thread nD τ) M5 fullShare (k2_pay4 x1 (from2 false (xh, xc)).1 x2 (from2 false (xh, xc)).2)
            ∗ owns (c : Thread nD τ) M6 fullShare (step2 x1 x2 (from2 false (xh, xc))).1 ∗ owns (c : Thread nD τ) M7 fullShare (step2 x1 x2 (from2 false (xh, xc))).2) -∗ Q ⟨⟩))
      ⊢ wp frame (wpE (defs₀ (F := F)) Variants.none c none) E (cc2_body i M1 h1 M2 h2 M3 h3 M4 h4 M5 h5 M6 h6 M7 h7) Q := by
  simp only [cc2_body_eq_skeleton]
  unfold cc2_body_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf4 hf5 hf6 hf7
  sl_exec (disch := first | sl_exact hc1 | sl_exact hc2)
  sl_step
  iapply Hk
  isplitl [H1]; · iexists f1; isplitr; · itrivial
                  iexact H1
  isplitl [H2]; · iexists f2; isplitr; · itrivial
                  iexact H2
  isplitl [H3]
  · iexists _; isplitr; swap; · iexact H3
    ipureintro
    refine (View.read_writes_full _ _ _ _ _).trans ?_
    exact congr (congr (congr (congrArg k2_pay8 (View.readAt_full _ _ _)) (View.readAt_full _ _ _)) (View.readAt_full _ _ _)) (View.readAt_full _ _ _)
  isplitl [H4]
  · iexists _; isplitr; swap; · iexact H4
    ipureintro
    refine (View.read_writes_full _ _ _ _ _).trans ?_
    exact congr (congr (congr (congrArg k2_pay5 (View.readAt_full _ _ _)) (View.readAt_full _ _ _)) (View.readAt_full _ _ _)) (View.readAt_full _ _ _)
  isplitl [H5]
  · iexists _; isplitr; swap; · iexact H5
    ipureintro
    refine (View.read_writes_full _ _ _ _ _).trans ?_
    exact congr (congr (congr (congrArg k2_pay4 (View.readAt_full _ _ _)) (View.readAt_full _ _ _)) (View.readAt_full _ _ _)) (View.readAt_full _ _ _)
  isplitl [H6]
  · iexists _; isplitr; swap; · iexact H6
    ipureintro
    refine (View.read_writes_full _ _ _ _ _).trans ?_
    exact congr (congr (congr (congrArg k2_pay7 (View.readAt_full _ _ _)) (View.readAt_full _ _ _)) (View.readAt_full _ _ _)) (View.readAt_full _ _ _)
  iexists _; isplitr; swap; · iexact H7
  ipureintro
  refine (View.read_writes_full _ _ _ _ _).trans ?_
  exact congr (congr (congr (congrArg k2_pay6 (View.readAt_full _ _ _)) (View.readAt_full _ _ _)) (View.readAt_full _ _ _)) (View.readAt_full _ _ _)

/-! ## The proof data, at an entry valuation -/

variable (V : Dev nD → Valuation τ sig (Elt F))

/-- Row `n` of the gates' array. -/
def row2 (X : Vec F S128x8x4096 .f32) (n : ℕ) : Vec F S1x8x4096 .f32 :=
  fun y => X (ix3 ⟨n % 128, Nat.mod_lt _ (by decide)⟩ (y 1) (y 2))

/-- The hidden and the cell state after `n` time steps, from zero. -/
def st2 (X : Vec F S128x8x4096 .f32) (W : Vec F S1024x4096 .bf16) : ℕ → Vec F S8x1024 .f32 × Vec F S8x1024 .f32
  | 0 => (k2_pay1, k2_pay2)
  | n + 1 => step2 (row2 X n) W (st2 X W n)

/-- The states the call leaves in its first result's array, one for each time step. -/
def seq2 (X : Vec F S128x8x4096 .f32) (W : Vec F S1024x4096 .bf16) : Vec F S128x8x1024 .f32 := fun i =>
  k2_pay8 (row2 X (i 0).val) (st2 X W (i 0).val).1 W (st2 X W (i 0).val).2 (ix3 0 (i 1) (i 2))

theorem seq2_at (X : Vec F S128x8x4096 .f32) (W : Vec F S1024x4096 .bf16) (n : ℕ) (y : S1x8x1024.Idx) (i : S128x8x1024.Idx)
    (h0 : (i 0).val = n) (h1 : (i 1).val = (y 1).val) (h2 : (i 2).val = (y 2).val) :
    seq2 X W i = k2_pay8 (row2 X n) (st2 X W n).1 W (st2 X W n).2 y := by
  subst h0
  unfold seq2
  refine congrArg _ (funext fun a => ?_)
  match a with
  | ⟨0, _⟩ => exact Fin.ext (by show 0 = (y 0).val; have : (y 0).val < 1 := (y 0).isLt; omega)
  | ⟨1, _⟩ => exact Fin.ext h1
  | ⟨2, _⟩ => exact Fin.ext h2

/-- The hidden state the last point copies out. -/
def lastH2 (X : Vec F S128x8x4096 .f32) (W : Vec F S1024x4096 .bf16) : Vec F S8x1024 .f32 :=
  k2_pay5 (row2 X 127) (st2 X W 127).1 W (st2 X W 127).2
/-- The cell state the last point copies out. -/
def lastC2 (X : Vec F S128x8x4096 .f32) (W : Vec F S1024x4096 .bf16) : Vec F S8x1024 .f32 :=
  k2_pay4 (row2 X 127) (st2 X W 127).1 W (st2 X W 127).2

/-- The valuation after the call: its three results' arrays hold the states, the others what they held. -/
def val2 (c : Dev nD) : Valuation τ sig (Elt F) :=
  Function.update (Function.update (Function.update (V c) main_v24_0 (seq2 (V c main_v21) (V c main_v23)))
    main_v24_1 (lastH2 (V c main_v21) (V c main_v23))) main_v24_2 (lastC2 (V c main_v21) (V c main_v23))

/-- The block of window `w`'s array at point `t`. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem cfg2_N : (cfg2).N = 128 := by decide

/-- The state before point `n`. -/
abbrev stAt2 (c : Dev nD) (n : ℕ) : Vec F S8x1024 .f32 × Vec F S8x1024 .f32 := st2 (V c main_v21) (V c main_v23) n

/-- The scoped buffers that are neither a window's staging buffer nor the two of the state. -/
abbrev but2 (c : Dev nD) : sProp 𝕄 := Pipeline.scopedRestBut spec2 c [cc2_scratch0, cc2_scratch1]

/-- What the body keeps between points: before the first nothing is said of the scratch, later it holds the state. -/
def Phi2 (c : Dev nD) : ℕ → sProp 𝕄
  | 0 => Pipeline.scopedRest spec2 c
  | n + 1 => iprop(owns (c : Thread nD τ) (Memref.whole cc2_scratch0) fullShare (stAt2 V c (n + 1)).1
      ∗ owns (c : Thread nD τ) (Memref.whole cc2_scratch1) fullShare (stAt2 V c (n + 1)).2 ∗ but2 c)

/-- The scratch buffers taken out of the scoped rest. -/
theorem rest2 (c : Dev nD) : (Pipeline.scopedRest spec2 c : sProp 𝕄)
    = iprop(((∃ f : Buf (Elt F) ((c.tc : Thread nD τ).loc cc2_scratch0), ((c.tc : Thread nD τ).loc cc2_scratch0) ↦{fullShare} f)
        ∗ (∃ f : Buf (Elt F) ((c.tc : Thread nD τ).loc cc2_scratch1), ((c.tc : Thread nD τ).loc cc2_scratch1) ↦{fullShare} f)) ∗ but2 c) :=
  Pipeline.scopedRest_split_of_list spec2 c [cc2_scratch0, cc2_scratch1] (by decide) (by decide)

/-- The call's proof data from the valuation `V`. -/
def dat2 (c : Dev nD) : Dat τ (Elt F) (HIx 1) ℕ UU ℕ cfg2 c where
  A w := V c (Pipeline.arrRef spec2 w)
  after w t := match w with
    | ⟨0, _⟩ => blk2 V c 0 t
    | ⟨1, _⟩ => blk2 V c 1 t
    | ⟨2, _⟩ => k2_pay8 (row2 (V c main_v21) t.val) (stAt2 V c t.val).1 (V c main_v23) (stAt2 V c t.val).2
    | ⟨3, _⟩ => k2_pay5 (row2 (V c main_v21) t.val) (stAt2 V c t.val).1 (V c main_v23) (stAt2 V c t.val).2
    | ⟨4, _⟩ => k2_pay4 (row2 (V c main_v21) t.val) (stAt2 V c t.val).1 (V c main_v23) (stAt2 V c t.val).2
  Φ n := Phi2 V c n.val
  q _ := fullShare
  owed _ := 0
  recorded _ := recB (F := F) c

/-- The family of the call: its own data at pipeline 1. -/
def pd2 [∀ e, Nonempty (Elt F e)] : PDats (F := F)
  | ⟨0, _⟩ => fun c => junkDat c
  | ⟨1, _⟩ => fun c => dat2 V c
  | ⟨2, _⟩ => fun c => junkDat c
  | ⟨3, _⟩ => fun c => junkDat c
  | ⟨4, _⟩ => fun c => junkDat c

theorem coord2 (t : Fin cfg2.N) : (grid2.coords t 0).val = t.val := by
  have := t.isLt; have := cfg2_N
  have e : (grid2.coords t 0).val = t.val / 1 % 128 := Pipeline.Grid.coords_val t 0 (by decide) rfl
  omega
theorem word2 (t : Fin cfg2.N) : (BitVec.ofNat 32 (grid2.coords t 0).val).toNat = t.val := by
  have := t.isLt; have := cfg2_N
  rw [coord2, BitVec.toNat_ofNat]; omega
theorem idx2_0 (t : Fin cfg2.N) : win2_0.index t = ![t.val, 0, 0] :=
  show ![(BitVec.ofNat 32 (grid2.coords t 0).val).toNat, 0, 0] = _ from by rw [word2]
theorem idx2_1 (t : Fin cfg2.N) (a) : win2_1.index t a = 0 := by
  match a with | ⟨0, _⟩ => rfl | ⟨1, _⟩ => rfl
theorem idx2_2 (t : Fin cfg2.N) : win2_2.index t = ![t.val, 0, 0] :=
  show ![(BitVec.ofNat 32 (grid2.coords t 0).val).toNat, 0, 0] = _ from by rw [word2]

theorem blk2_0 (c : Dev nD) (t : Fin cfg2.N) : blk2 V c 0 t = row2 (V c main_v21) t.val := by
  have ht : t.val % 128 = t.val := Nat.mod_eq_of_lt (lt_of_lt_of_eq t.isLt cfg2_N)
  unfold blk2 row2; funext y; rw [View.read_apply]
  have hy : (y 0).val < 1 := (y 0).isLt
  blk_ext [idx2_0, ht]
theorem blk2_1 (c : Dev nD) (t : Fin cfg2.N) : blk2 V c 1 t = V c main_v23 := by
  unfold blk2; funext y; rw [View.read_apply]; blk_ext [idx2_1]

theorem before2_0 (c : Dev nD) (t : Fin cfg2.N) (d) : (dat2 V c).before 0 t d = row2 (V c main_v21) t.val :=
  ((dat2 V c).before_in_eq_fetched 0 rfl (fun _ => rfl) (fun _ _ _ => rfl) (fun t => rfl) t d).trans (blk2_0 V c t)
theorem before2_1 (c : Dev nD) (t : Fin cfg2.N) (d) : (dat2 V c).before 1 t d = V c main_v23 :=
  ((dat2 V c).before_in_eq_fetched 1 rfl (fun _ => rfl) (fun _ _ _ => rfl) (fun t => rfl) t d).trans (blk2_1 V c t)

theorem defs₀_row2 (t : Fin cfg2.N) :
    (defs₀ (F := F)) .tc cfg2.body (cfg2.bodyArgs t (cfg2.slots t))
      = cc2_body (grid2.coords t) (win2_0.stage (cfg2.slots t 0)) (hstage2_0 ((cfg2.slots t 0).cast nbuf2_0))
          (win2_1.stage (cfg2.slots t 1)) (hstage2_1 ((cfg2.slots t 1).cast nbuf2_1))
          (win2_2.stage (cfg2.slots t 2)) (hstage2_2 ((cfg2.slots t 2).cast nbuf2_2))
          (win2_3.stage (cfg2.slots t 3)) (hstage2_3 ((cfg2.slots t 3).cast nbuf2_3))
          (win2_4.stage (cfg2.slots t 4)) (hstage2_4 ((cfg2.slots t 4).cast nbuf2_4))
          (Memref.whole cc2_scratch0) (Memref.isWhole_whole _) (Memref.whole cc2_scratch1) (Memref.isWhole_whole _) := rfl

theorem hfirst2 : ∀ t : Fin cfg2.N, first2 (grid2.coords t) = 1#1 ↔ t.val = 0 := by decide +kernel
theorem hlast2 : ∀ t : Fin cfg2.N, k2_cond2 (grid2.coords t) = 1#1 ↔ t.val = 127 := by decide +kernel
theorem idle2_3 : ∀ t : Fin cfg2.N, ¬t.val = 127 → cfg2.idle 3 (cfg2.grid.coords t) = true := by decide +kernel
theorem idle2_4 : ∀ t : Fin cfg2.N, ¬t.val = 127 → cfg2.idle 4 (cfg2.grid.coords t) = true := by decide +kernel
theorem live2_3 : ∀ t : Fin cfg2.N, t.val = 127 → cfg2.idle 3 (cfg2.grid.coords t) = false := by decide +kernel
theorem live2_4 : ∀ t : Fin cfg2.N, t.val = 127 → cfg2.idle 4 (cfg2.grid.coords t) = false := by decide +kernel
theorem flush2_3 : ∀ t : Fin cfg2.N, ¬t.val = 127 → (cfg2.win 3).flush t = false := by decide +kernel
theorem flush2_4 : ∀ t : Fin cfg2.N, ¬t.val = 127 → (cfg2.win 4).flush t = false := by decide +kernel

theorem bigSep_five2 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The body obligation at one point, its windows one by one. -/
theorem point2 [∀ e, Nonempty (Elt F e)] (c : Dev nD) (t : Fin cfg2.N) :
    iprop(Phi2 V c t.val ∗ (dat2 V c).owesAt none t.castSucc
        ∗ (∃ d, owns (c : Thread nD τ) (win2_0.stage (cfg2.slots t 0)) fullShare ((dat2 V c).before 0 t d))
        ∗ (∃ d, owns (c : Thread nD τ) (win2_1.stage (cfg2.slots t 1)) fullShare ((dat2 V c).before 1 t d))
        ∗ (∃ d, owns (c : Thread nD τ) (win2_2.stage (cfg2.slots t 2)) fullShare ((dat2 V c).before 2 t d))
        ∗ (∃ d, owns (c : Thread nD τ) (win2_3.stage (cfg2.slots t 3)) fullShare ((dat2 V c).before 3 t d))
        ∗ (∃ d, owns (c : Thread nD τ) (win2_4.stage (cfg2.slots t 4)) fullShare ((dat2 V c).before 4 t d)))
      ⊢ wp frame (wpE (defs₀ (F := F)) Variants.none c none) Set.univ ((defs₀ (F := F)) .tc cfg2.body (cfg2.bodyArgs t (cfg2.slots t)))
        (fun _ => iprop(Phi2 V c (t.val + 1) ∗ (dat2 V c).owesAt none t.castSucc
          ∗ owns (c : Thread nD τ) (win2_0.stage (cfg2.slots t 0)) fullShare (row2 (V c main_v21) t.val)
          ∗ owns (c : Thread nD τ) (win2_1.stage (cfg2.slots t 1)) fullShare (V c main_v23)
          ∗ owns (c : Thread nD τ) (win2_2.stage (cfg2.slots t 2)) fullShare ((dat2 V c).after 2 t)
          ∗ (dat2 V c).leavesExact 3 t ∗ (dat2 V c).leavesExact 4 t)) := by
  rw [defs₀_row2]
  by_cases hl : t.val = 127
  · rw [show (dat2 V c).leavesExact 3 t = owns (c : Thread nD τ) (win2_3.stage (cfg2.slots t 3)) fullShare ((dat2 V c).after 3 t) from by
        unfold Dat.leavesExact; rw [live2_3 t hl],
      show (dat2 V c).leavesExact 4 t = owns (c : Thread nD τ) (win2_4.stage (cfg2.slots t 4)) fullShare ((dat2 V c).after 4 t) from by
        unfold Dat.leavesExact; rw [live2_4 t hl]]
    rw [show Phi2 V c t.val = iprop(owns (c : Thread nD τ) (Memref.whole cc2_scratch0) fullShare (stAt2 V c t.val).1
        ∗ owns (c : Thread nD τ) (Memref.whole cc2_scratch1) fullShare (stAt2 V c t.val).2 ∗ but2 c) from by rw [hl]; rfl]
    iintro ⟨⟨Hh, Hc, Hr⟩, HO, ⟨%d0, H0⟩, ⟨%d1, H1⟩, ⟨%d2, H2⟩, ⟨%d3, H3⟩, ⟨%d4, H4⟩⟩
    rw [before2_0, before2_1]
    iapply (run2_last c (grid2.coords t) (fun h => by have := (hfirst2 t).mp h; omega) ((hlast2 t).mpr hl) _ _ _ _ _ _ _ _ _ _ _ _ _ _
      (row2 (V c main_v21) t.val) (V c main_v23) _ _ _ (stAt2 V c t.val).1 (stAt2 V c t.val).2 Set.univ _)
    isplitl [H0]; · iexact H0
    isplitl [H1]; · iexact H1
    isplitl [H2]; · iexact H2
    isplitl [H3]; · iexact H3
    isplitl [H4]; · iexact H4
    isplitl [Hh]; · iexact Hh
    isplitl [Hc]; · iexact Hc
    iintro ⟨H0, H1, H2, H3, H4, Hh, Hc⟩
    isplitl [Hh Hc Hr]
    · unfold Phi2
      isplitl [Hh]; · iexact Hh
      isplitl [Hc]; · iexact Hc
      iexact Hr
    isplitl [HO]; · iexact HO
    isplitl [H0]; · iexact H0
    isplitl [H1]; · iexact H1
    isplitl [H2]; · iexact H2
    isplitl [H3]; · iexact H3
    iexact H4
  rw [Dat.leavesExact_idle (dat2 V c) 3 t (idle2_3 t hl) (flush2_3 t hl), Dat.leavesExact_idle (dat2 V c) 4 t (idle2_4 t hl) (flush2_4 t hl)]
  by_cases hf : t.val = 0
  · rw [show Phi2 V c t.val = Pipeline.scopedRest spec2 c from by rw [hf]; rfl, rest2]
    iintro ⟨⟨⟨⟨%f0, Hh⟩, ⟨%f1, Hc⟩⟩, Hr⟩, HO, ⟨%d0, H0⟩, ⟨%d1, H1⟩, ⟨%d2, H2⟩, ⟨%d3, H3⟩, ⟨%d4, H4⟩⟩
    rw [before2_0, before2_1]
    iapply (run2_first c (grid2.coords t) ((hfirst2 t).mpr hf) (fun h => hl ((hlast2 t).mp h)) _ _ _ _ _ _ _ _ _ _ _ _ _ _
      (row2 (V c main_v21) t.val) (V c main_v23) _ _ _ f0 f1 Set.univ _)
    isplitl [H0]; · iexact H0
    isplitl [H1]; · iexact H1
    isplitl [H2]; · iexact H2
    isplitl [H3]; · iexact H3
    isplitl [H4]; · iexact H4
    isplitl [Hh]; · rw [owns_whole]; iexact Hh
    isplitl [Hc]; · rw [owns_whole]; iexact Hc
    iintro ⟨H0, H1, H2, H3, H4, Hh, Hc⟩
    rw [show from2 true (f0, f1) = stAt2 V c t.val from by rw [hf]; rfl]
    isplitl [Hh Hc Hr]
    · unfold Phi2
      isplitl [Hh]; · iexact Hh
      isplitl [Hc]; · iexact Hc
      iexact Hr
    isplitl [HO]; · iexact HO
    isplitl [H0]; · iexact H0
    isplitl [H1]; · iexact H1
    isplitl [H2]; · iexact H2
    isplitl [H3]; · iexists d3; iexact H3
    iexists d4; iexact H4
  rw [show Phi2 V c t.val = iprop(owns (c : Thread nD τ) (Memref.whole cc2_scratch0) fullShare (stAt2 V c t.val).1
      ∗ owns (c : Thread nD τ) (Memref.whole cc2_scratch1) fullShare (stAt2 V c t.val).2 ∗ but2 c) from by
    obtain ⟨n, hn⟩ := Nat.exists_eq_succ_of_ne_zero hf
    rw [hn]; rfl]
  iintro ⟨⟨Hh, Hc, Hr⟩, HO, ⟨%d0, H0⟩, ⟨%d1, H1⟩, ⟨%d2, H2⟩, ⟨%d3, H3⟩, ⟨%d4, H4⟩⟩
  rw [before2_0, before2_1]
  iapply (run2_mid c (grid2.coords t) (fun h => hf ((hfirst2 t).mp h)) (fun h => hl ((hlast2 t).mp h)) _ _ _ _ _ _ _ _ _ _ _ _ _ _
    (row2 (V c main_v21) t.val) (V c main_v23) _ _ _ (stAt2 V c t.val).1 (stAt2 V c t.val).2 Set.univ _)
  isplitl [H0]; · iexact H0
  isplitl [H1]; · iexact H1
  isplitl [H2]; · iexact H2
  isplitl [H3]; · iexact H3
  isplitl [H4]; · iexact H4
  isplitl [Hh]; · iexact Hh
  isplitl [Hc]; · iexact Hc
  iintro ⟨H0, H1, H2, H3, H4, Hh, Hc⟩
  isplitl [Hh Hc Hr]
  · unfold Phi2
    isplitl [Hh]; · iexact Hh
    isplitl [Hc]; · iexact Hc
    iexact Hr
  isplitl [HO]; · iexact HO
  isplitl [H0]; · iexact H0
  isplitl [H1]; · iexact H1
  isplitl [H2]; · iexact H2
  isplitl [H3]; · iexists d3; iexact H3
  iexists d4; iexact H4

theorem bodyAt2 [∀ e, Nonempty (Elt F e)] (c : Dev nD) : BodyObligation (dat2 V c) (defs₀ (F := F)) 𝒱₀ none Set.univ := fun t => by
  rw [bigSep_five2, bigSep_five2]
  rw [show (dat2 V c).owesAt none t.succ = (dat2 V c).owesAt none t.castSucc from rfl]
  have h := point2 V c t
  rw [← blk2_0, ← blk2_1 V c t] at h
  exact h

theorem fin2_2 (c : Dev nD) : (dat2 V c).arrAt 2 cfg2.N = seq2 (V c main_v21) (V c main_v23) := by
  refine (dat2 V c).arrAt_eq_of_covers 2 _ (by decide +kernel) fun t hf y => ?_
  have hy : (y 0).val < 1 := (y 0).isLt
  refine Eq.trans ?_ (seq2_at _ _ t.val y _ ?_ ?_ ?_).symm
  · rfl
  · blk_simp [idx2_2]
  · blk_simp [idx2_2]
  · blk_simp [idx2_2]

theorem fin2_3 (c : Dev nD) : (dat2 V c).arrAt 3 cfg2.N = lastH2 (V c main_v21) (V c main_v23) :=
  (dat2 V c).arrAt_eq_of_after_last 3 ⟨127, by decide⟩ (by decide +kernel) _ fun j => rfl
theorem fin2_4 (c : Dev nD) : (dat2 V c).arrAt 4 cfg2.N = lastC2 (V c main_v21) (V c main_v23) :=
  (dat2 V c).arrAt_eq_of_after_last 4 ⟨127, by decide⟩ (by decide +kernel) _ fun j => rfl

theorem val2_ne (c : Dev nD) (b : Ref sig .tc) (h0 : b ≠ main_v24_0) (h1 : b ≠ main_v24_1) (h2 : b ≠ main_v24_2) :
    val2 V c b = V c b := by
  unfold val2
  rw [Function.update_of_ne (fun h => h2 (Proc.devRef_injective _ h)), Function.update_of_ne (fun h => h1 (Proc.devRef_injective _ h)),
    Function.update_of_ne (fun h => h0 (Proc.devRef_injective _ h))]
theorem val2_0 (c : Dev nD) : val2 V c main_v24_0 = seq2 (V c main_v21) (V c main_v23) := by
  have h1 : (main_v24_0 : Ref sig .tc) ≠ main_v24_1 := by decide
  have h2 : (main_v24_0 : Ref sig .tc) ≠ main_v24_2 := by decide
  unfold val2
  rw [Function.update_of_ne (fun h => h2 (Proc.devRef_injective _ h)), Function.update_of_ne (fun h => h1 (Proc.devRef_injective _ h)), Function.update_self]
theorem val2_1 (c : Dev nD) : val2 V c main_v24_1 = lastH2 (V c main_v21) (V c main_v23) := by
  have h2 : (main_v24_1 : Ref sig .tc) ≠ main_v24_2 := by decide
  unfold val2
  rw [Function.update_of_ne (fun h => h2 (Proc.devRef_injective _ h)), Function.update_self]
theorem val2_2 (c : Dev nD) : val2 V c main_v24_2 = lastC2 (V c main_v21) (V c main_v23) := by
  unfold val2
  rw [Function.update_self]

set_option maxHeartbeats 1000000 in
/-- What the region of the call needs, from any valuation `V` to `val2 V`. -/
theorem facts2 [∀ e, Nonempty (Elt F e)] : RegionFacts (F := F) 1 (pd2 V) V (val2 V) where
  launch := launch1
  hA c w := rfl
  hq c w := rfl
  howed c t := rfl
  hrec c t := rfl
  hbody c := bodyAt2 V c
  hin c := by
    rw [show (pd2 V 1 c).Φ 0 = Pipeline.scopedRest spec2 c from rfl]
    iintro H; iexact H
  hout c := by
    rw [show (pd2 V 1 c).Φ _ = iprop(owns (c : Thread nD τ) (Memref.whole cc2_scratch0) fullShare (stAt2 V c 128).1
      ∗ owns (c : Thread nD τ) (Memref.whole cc2_scratch1) fullShare (stAt2 V c 128).2 ∗ but2 c) from rfl]
    rw [show (Pipeline.scopedRest (Pipeline.pin (pcfgs (F := F)) adm 1).spec c : sProp 𝕄) = Pipeline.scopedRest spec2 c from rfl, rest2, owns_whole, owns_whole]
    iintro ⟨Hh, Hc, Hr⟩
    isplitl [Hh Hc]
    · isplitl [Hh]; · iexists _; iexact Hh
      iexists _; iexact Hc
    iexact Hr
  hfin c w := by
    fin_cases w
    · exact ((dat2 V c).arrAt_in 0 rfl _).trans (val2_ne V c main_v21 (by decide) (by decide) (by decide)).symm
    · exact ((dat2 V c).arrAt_in 1 rfl _).trans (val2_ne V c main_v23 (by decide) (by decide) (by decide)).symm
    · exact (fin2_2 V c).trans (val2_0 V c).symm
    · exact (fin2_3 V c).trans (val2_1 V c).symm
    · exact (fin2_4 V c).trans (val2_2 V c).symm
  hne c b hb := by
    unfold val2
    rw [Function.update_of_ne fun h => hb (Finset.mem_image.mpr ⟨(4 : Fin 5), Finset.mem_univ _, (Proc.devRef_injective _ h).symm⟩),
      Function.update_of_ne fun h => hb (Finset.mem_image.mpr ⟨(3 : Fin 5), Finset.mem_univ _, (Proc.devRef_injective _ h).symm⟩),
      Function.update_of_ne fun h => hb (Finset.mem_image.mpr ⟨(2 : Fin 5), Finset.mem_univ _, (Proc.devRef_injective _ h).symm⟩)]

end Cert.KernelIdeal.Sc
-- ==== Proof.Ideal.TcRecB.lean ====
/-
  The call `lstm_rec` of the second layer (pipeline 3): its body's run, its proof data, and the facts its region needs.
  It has 128 grid points, one for each time step. Two scratch buffers carry the hidden and the cell state from
  point to point; the first point writes zeros into them, the last copies them out.
-/
module

public import proofs.«01_k».proof.Proof.Ideal.TcRecA
public import Idealize.ShloMosaic.Lib.Pipeline.FrameBody
public import Idealize.ShloMosaic.Lib.Pipeline.Value
public import Idealize.ShloMosaic.Lib.VecWindow
public import Idealize.ShloMosaic.Lib.Pipeline.ValueKit
public import Idealize.ShloMosaic.Lib.ValueIdx

@[expose] public section

noncomputable section

namespace Cert.KernelIdeal.Sc

open Cert.KernelIdeal Cert.KernelIdeal.Gen

open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

set_option maxRecDepth 16384

/-- The test that the point is the first, as the body computes it. -/
abbrev first4 (i : grid4.Coords) : BitVec 1 :=
  Scalar.cmpi .ne (Scalar.extui (Scalar.cmpi .eq (BitVec.ofNat 32 (i 0).val) 0#32) : BitVec 32) 0#32

/-- The state the point computes from: zeros at the first point, else what the scratch holds. -/
def from4 (b : Bool) (p : Vec F S8x1024 .f32 × Vec F S8x1024 .f32) : Vec F S8x1024 .f32 × Vec F S8x1024 .f32 :=
  if b then (k4_pay1, k4_pay2) else p

/-- One time step: the gates' row `x`, the weights `w`, the state before. -/
def step4 (x : Vec F S1x8x4096 .f32) (w : Vec F S1024x4096 .bf16) (p : Vec F S8x1024 .f32 × Vec F S8x1024 .f32) :
    Vec F S8x1024 .f32 × Vec F S8x1024 .f32 :=
  (k4_pay7 x p.1 w p.2, k4_pay6 x p.1 w p.2)

/-- The body at the first point: the states it computes from are zero. -/
theorem run4_first [∀ e, Nonempty (Elt F e)] (c : Dev nD) (i : grid4.Coords) (hc1 : first4 i = 1#1) (hc2 : ¬k4_cond2 i = 1#1)
    (M1 : Memref sig .tc .vmem S1x8x4096 .f32) (h1 : M1.IsWhole) (M2 : Memref sig .tc .vmem S1024x4096 .bf16) (h2 : M2.IsWhole)
    (M3 : Memref sig .tc .vmem S1x8x1024 .f32) (h3 : M3.IsWhole) (M4 : Memref sig .tc .vmem S8x1024 .f32) (h4 : M4.IsWhole)
    (M5 : Memref sig .tc .vmem S8x1024 .f32) (h5 : M5.IsWhole) (M6 : Memref sig .tc .vmem S8x1024 .f32) (h6 : M6.IsWhole)
    (M7 : Memref sig .tc .vmem S8x1024 .f32) (h7 : M7.IsWhole)
    (x1 : Vec F S1x8x4096 .f32) (x2 : Vec F S1024x4096 .bf16) (x3 : Vec F S1x8x1024 .f32) (x4 x5 xh xc : Vec F S8x1024 .f32)
    (E : Set ℕ) (Q : PUnit → sProp 𝕄) :
    iprop(owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5
        ∗ owns (c : Thread nD τ) M6 fullShare xh ∗ owns (c : Thread nD τ) M7 fullShare xc
        ∗ (iprop(owns (c : Thread nD τ) M1 fullShare x1 ∗ owns (c : Thread nD τ) M2 fullShare x2
            ∗ owns (c : Thread nD τ) M3 fullShare (k4_pay8 x1 (from4 true (xh, xc)).1 x2 (from4 true (xh, xc)).2)
            ∗ owns (c : Thread nD τ) M4 fullShare x4 ∗ owns (c : Thread nD τ) M5 fullShare x5
            ∗ owns (c : Thread nD τ) M6 fullShare (step4 x1 x2 (from4 true (xh, xc))).1 ∗ owns (c : Thread nD τ) M7 fullShare (step4 x1 x2 (from4 true (xh, xc))).2) -∗ Q ⟨⟩))
      ⊢ wp frame (wpE (defs₀ (F := F)) Variants.none c none) E (cc4_body i M1 h1 M2 h2 M3 h3 M4 h4 M5 h5 M6 h6 M7 h7) Q := by
  simp only [cc4_body_eq_skeleton]
  unfold cc4_body_skel
  simp only [k4_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf4 hf5 hf6 hf7
  sl_exec (disch := first | sl_exact hc1 | sl_exact hc2)
  sl_step
  iapply Hk
  isplitl [H1]; · iexists f1; isplitr; · itrivial
                  iexact H1
  isplitl [H2]; · iexists f2; isplitr; · itrivial
                  iexact H2
  isplitl [H3]
  · iexists _; isplitr; swap; · iexact H3
    ipureintro
    refine (View.read_writes_full _ _ _ _ _).trans ?_
    exact congr (congr (congr (congrArg k4_pay8 (View.readAt_full _ _ _)) (View.readCov_full _ _ _ _ _)) (View.readAt_full _ _ _)) (View.readCov_full _ _ _ _ _)
  isplitl [H4]; · iexists f4; isplitr; · itrivial
                  iexact H4
  isplitl [H5]; · iexists f5; isplitr; · itrivial
                  iexact H5
  isplitl [H6]
  · iexists _; isplitr; swap; · iexact H6
    ipureintro
    refine (View.read_writes_full _ _ _ _ _).trans ?_
    exact congr (congr (congr (congrArg k4_pay7 (View.readAt_full _ _ _)) (View.readCov_full _ _ _ _ _)) (View.readAt_full _ _ _)) (View.readCov_full _ _ _ _ _)
  iexists _; isplitr; swap; · iexact H7
  ipureintro
  refine (View.read_writes_full _ _ _ _ _).trans ?_
  exact congr (congr (congr (congrArg k4_pay6 (View.readAt_full _ _ _)) (View.readCov_full _ _ _ _ _)) (View.readAt_full _ _ _)) (View.readCov_full _ _ _ _ _)

/-- The body at a point that is neither first nor last. -/
theorem run4_mid [∀ e, Nonempty (Elt F e)] (c : Dev nD) (i : grid4.Coords) (hc1 : ¬first4 i = 1#1) (hc2 : ¬k4_cond2 i = 1#1)
    (M1 : Memref sig .tc .vmem S1x8x4096 .f32) (h1 : M1.IsWhole) (M2 : Memref sig .tc .vmem S1024x4096 .bf16) (h2 : M2.IsWhole)
    (M3 : Memref sig .tc .vmem S1x8x1024 .f32) (h3 : M3.IsWhole) (M4 : Memref sig .tc .vmem S8x1024 .f32) (h4 : M4.IsWhole)
    (M5 : Memref sig .tc .vmem S8x1024 .f32) (h5 : M5.IsWhole) (M6 : Memref sig .tc .vmem S8x1024 .f32) (h6 : M6.IsWhole)
    (M7 : Memref sig .tc .vmem S8x1024 .f32) (h7 : M7.IsWhole)
    (x1 : Vec F S1x8x4096 .f32) (x2 : Vec F S1024x4096 .bf16) (x3 : Vec F S1x8x1024 .f32) (x4 x5 xh xc : Vec F S8x1024 .f32)
    (E : Set ℕ) (Q : PUnit → sProp 𝕄) :
    iprop(owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5
        ∗ owns (c : Thread nD τ) M6 fullShare xh ∗ owns (c : Thread nD τ) M7 fullShare xc
        ∗ (iprop(owns (c : Thread nD τ) M1 fullShare x1 ∗ owns (c : Thread nD τ) M2 fullShare x2
            ∗ owns (c : Thread nD τ) M3 fullShare (k4_pay8 x1 (from4 false (xh, xc)).1 x2 (from4 false (xh, xc)).2)
            ∗ owns (c : Thread nD τ) M4 fullShare x4 ∗ owns (c : Thread nD τ) M5 fullShare x5
            ∗ owns (c : Thread nD τ) M6 fullShare (step4 x1 x2 (from4 false (xh, xc))).1 ∗ owns (c : Thread nD τ) M7 fullShare (step4 x1 x2 (from4 false (xh, xc))).2) -∗ Q ⟨⟩))
      ⊢ wp frame (wpE (defs₀ (F := F)) Variants.none c none) E (cc4_body i M1 h1 M2 h2 M3 h3 M4 h4 M5 h5 M6 h6 M7 h7) Q := by
  simp only [cc4_body_eq_skeleton]
  unfold cc4_body_skel
  simp only [k4_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf4 hf5 hf6 hf7
  sl_exec (disch := first | sl_exact hc1 | sl_exact hc2)
  sl_step
  iapply Hk
  isplitl [H1]; · iexists f1; isplitr; · itrivial
                  iexact H1
  isplitl [H2]; · iexists f2; isplitr; · itrivial
                  iexact H2
  isplitl [H3]
  · iexists _; isplitr; swap; · iexact H3
    ipureintro
    refine (View.read_writes_full _ _ _ _ _).trans ?_
    exact congr (congr (congr (congrArg k4_pay8 (View.readAt_full _ _ _)) (View.readAt_full _ _ _)) (View.readAt_full _ _ _)) (View.readAt_full _ _ _)
  isplitl [H4]; · iexists f4; isplitr; · itrivial
                  iexact H4
  isplitl [H5]; · iexists f5; isplitr; · itrivial
                  iexact H5
  isplitl [H6]
  · iexists _; isplitr; swap; · iexact H6
    ipureintro
    refine (View.read_writes_full _ _ _ _ _).trans ?_
    exact congr (congr (congr (congrArg k4_pay7 (View.readAt_full _ _ _)) (View.readAt_full _ _ _)) (View.readAt_full _ _ _)) (View.readAt_full _ _ _)
  iexists _; isplitr; swap; · iexact H7
  ipureintro
  refine (View.read_writes_full _ _ _ _ _).trans ?_
  exact congr (congr (congr (congrArg k4_pay6 (View.readAt_full _ _ _)) (View.readAt_full _ _ _)) (View.readAt_full _ _ _)) (View.readAt_full _ _ _)

/-- The body at the last point: the states are copied out too. -/
theorem run4_last [∀ e, Nonempty (Elt F e)] (c : Dev nD) (i : grid4.Coords) (hc1 : ¬first4 i = 1#1) (hc2 : k4_cond2 i = 1#1)
    (M1 : Memref sig .tc .vmem S1x8x4096 .f32) (h1 : M1.IsWhole) (M2 : Memref sig .tc .vmem S1024x4096 .bf16) (h2 : M2.IsWhole)
    (M3 : Memref sig .tc .vmem S1x8x1024 .f32) (h3 : M3.IsWhole) (M4 : Memref sig .tc .vmem S8x1024 .f32) (h4 : M4.IsWhole)
    (M5 : Memref sig .tc .vmem S8x1024 .f32) (h5 : M5.IsWhole) (M6 : Memref sig .tc .vmem S8x1024 .f32) (h6 : M6.IsWhole)
    (M7 : Memref sig .tc .vmem S8x1024 .f32) (h7 : M7.IsWhole)
    (x1 : Vec F S1x8x4096 .f32) (x2 : Vec F S1024x4096 .bf16) (x3 : Vec F S1x8x1024 .f32) (x4 x5 xh xc : Vec F S8x1024 .f32)
    (E : Set ℕ) (Q : PUnit → sProp 𝕄) :
    iprop(owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5
        ∗ owns (c : Thread nD τ) M6 fullShare xh ∗ owns (c : Thread nD τ) M7 fullShare xc
        ∗ (iprop(owns (c : Thread nD τ) M1 fullShare x1 ∗ owns (c : Thread nD τ) M2 fullShare x2
            ∗ owns (c : Thread nD τ) M3 fullShare (k4_pay8 x1 (from4 false (xh, xc)).1 x2 (from4 false (xh, xc)).2)
            ∗ owns (c : Thread nD τ) M4 fullShare (k4_pay5 x1 (from4 false (xh, xc)).1 x2 (from4 false (xh, xc)).2) ∗ owns (c : Thread nD τ) M5 fullShare (k4_pay4 x1 (from4 false (xh, xc)).1 x2 (from4 false (xh, xc)).2)
            ∗ owns (c : Thread nD τ) M6 fullShare (step4 x1 x2 (from4 false (xh, xc))).1 ∗ owns (c : Thread nD τ) M7 fullShare (step4 x1 x2 (from4 false (xh, xc))).2) -∗ Q ⟨⟩))
      ⊢ wp frame (wpE (defs₀ (F := F)) Variants.none c none) E (cc4_body i M1 h1 M2 h2 M3 h3 M4 h4 M5 h5 M6 h6 M7 h7) Q := by
  simp only [cc4_body_eq_skeleton]
  unfold cc4_body_skel
  simp only [k4_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf1 hf2 hf4 hf5 hf6 hf7
  sl_exec (disch := first | sl_exact hc1 | sl_exact hc2)
  sl_step
  iapply Hk
  isplitl [H1]; · iexists f1; isplitr; · itrivial
                  iexact H1
  isplitl [H2]; · iexists f2; isplitr; · itrivial
                  iexact H2
  isplitl [H3]
  · iexists _; isplitr; swap; · iexact H3
    ipureintro
    refine (View.read_writes_full _ _ _ _ _).trans ?_
    exact congr (congr (congr (congrArg k4_pay8 (View.readAt_full _ _ _)) (View.readAt_full _ _ _)) (View.readAt_full _ _ _)) (View.readAt_full _ _ _)
  isplitl [H4]
  · iexists _; isplitr; swap; · iexact H4
    ipureintro
    refine (View.read_writes_full _ _ _ _ _).trans ?_
    exact congr (congr (congr (congrArg k4_pay5 (View.readAt_full _ _ _)) (View.readAt_full _ _ _)) (View.readAt_full _ _ _)) (View.readAt_full _ _ _)
  isplitl [H5]
  · iexists _; isplitr; swap; · iexact H5
    ipureintro
    refine (View.read_writes_full _ _ _ _ _).trans ?_
    exact congr (congr (congr (congrArg k4_pay4 (View.readAt_full _ _ _)) (View.readAt_full _ _ _)) (View.readAt_full _ _ _)) (View.readAt_full _ _ _)
  isplitl [H6]
  · iexists _; isplitr; swap; · iexact H6
    ipureintro
    refine (View.read_writes_full _ _ _ _ _).trans ?_
    exact congr (congr (congr (congrArg k4_pay7 (View.readAt_full _ _ _)) (View.readAt_full _ _ _)) (View.readAt_full _ _ _)) (View.readAt_full _ _ _)
  iexists _; isplitr; swap; · iexact H7
  ipureintro
  refine (View.read_writes_full _ _ _ _ _).trans ?_
  exact congr (congr (congr (congrArg k4_pay6 (View.readAt_full _ _ _)) (View.readAt_full _ _ _)) (View.readAt_full _ _ _)) (View.readAt_full _ _ _)

/-! ## The proof data, at an entry valuation -/

variable (V : Dev nD → Valuation τ sig (Elt F))

/-- Row `n` of the gates' array. -/
def row4 (X : Vec F S128x8x4096 .f32) (n : ℕ) : Vec F S1x8x4096 .f32 :=
  fun y => X (ix3 ⟨n % 128, Nat.mod_lt _ (by decide)⟩ (y 1) (y 2))

/-- The hidden and the cell state after `n` time steps, from zero. -/
def st4 (X : Vec F S128x8x4096 .f32) (W : Vec F S1024x4096 .bf16) : ℕ → Vec F S8x1024 .f32 × Vec F S8x1024 .f32
  | 0 => (k4_pay1, k4_pay2)
  | n + 1 => step4 (row4 X n) W (st4 X W n)

/-- The states the call leaves in its first result's array, one for each time step. -/
def seq4 (X : Vec F S128x8x4096 .f32) (W : Vec F S1024x4096 .bf16) : Vec F S128x8x1024 .f32 := fun i =>
  k4_pay8 (row4 X (i 0).val) (st4 X W (i 0).val).1 W (st4 X W (i 0).val).2 (ix3 0 (i 1) (i 2))

theorem seq4_at (X : Vec F S128x8x4096 .f32) (W : Vec F S1024x4096 .bf16) (n : ℕ) (y : S1x8x1024.Idx) (i : S128x8x1024.Idx)
    (h0 : (i 0).val = n) (h1 : (i 1).val = (y 1).val) (h2 : (i 2).val = (y 2).val) :
    seq4 X W i = k4_pay8 (row4 X n) (st4 X W n).1 W (st4 X W n).2 y := by
  subst h0
  unfold seq4
  refine congrArg _ (funext fun a => ?_)
  match a with
  | ⟨0, _⟩ => exact Fin.ext (by show 0 = (y 0).val; have : (y 0).val < 1 := (y 0).isLt; omega)
  | ⟨1, _⟩ => exact Fin.ext h1
  | ⟨2, _⟩ => exact Fin.ext h2

/-- The hidden state the last point copies out. -/
def lastH4 (X : Vec F S128x8x4096 .f32) (W : Vec F S1024x4096 .bf16) : Vec F S8x1024 .f32 :=
  k4_pay5 (row4 X 127) (st4 X W 127).1 W (st4 X W 127).2
/-- The cell state the last point copies out. -/
def lastC4 (X : Vec F S128x8x4096 .f32) (W : Vec F S1024x4096 .bf16) : Vec F S8x1024 .f32 :=
  k4_pay4 (row4 X 127) (st4 X W 127).1 W (st4 X W 127).2

/-- The valuation after the call: its three results' arrays hold the states, the others what they held. -/
def val4 (c : Dev nD) : Valuation τ sig (Elt F) :=
  Function.update (Function.update (Function.update (V c) main_v35_0 (seq4 (V c main_v32) (V c main_v34)))
    main_v35_1 (lastH4 (V c main_v32) (V c main_v34))) main_v35_2 (lastC4 (V c main_v32) (V c main_v34))

/-- The block of window `w`'s array at point `t`. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem cfg4_N : (cfg4).N = 128 := by decide

/-- The state before point `n`. -/
abbrev stAt4 (c : Dev nD) (n : ℕ) : Vec F S8x1024 .f32 × Vec F S8x1024 .f32 := st4 (V c main_v32) (V c main_v34) n

/-- The scoped buffers that are neither a window's staging buffer nor the two of the state. -/
abbrev but4 (c : Dev nD) : sProp 𝕄 := Pipeline.scopedRestBut spec4 c [cc4_scratch0, cc4_scratch1]

/-- What the body keeps between points: before the first nothing is said of the scratch, later it holds the state. -/
def Phi4 (c : Dev nD) : ℕ → sProp 𝕄
  | 0 => Pipeline.scopedRest spec4 c
  | n + 1 => iprop(owns (c : Thread nD τ) (Memref.whole cc4_scratch0) fullShare (stAt4 V c (n + 1)).1
      ∗ owns (c : Thread nD τ) (Memref.whole cc4_scratch1) fullShare (stAt4 V c (n + 1)).2 ∗ but4 c)

/-- The scratch buffers taken out of the scoped rest. -/
theorem rest4 (c : Dev nD) : (Pipeline.scopedRest spec4 c : sProp 𝕄)
    = iprop(((∃ f : Buf (Elt F) ((c.tc : Thread nD τ).loc cc4_scratch0), ((c.tc : Thread nD τ).loc cc4_scratch0) ↦{fullShare} f)
        ∗ (∃ f : Buf (Elt F) ((c.tc : Thread nD τ).loc cc4_scratch1), ((c.tc : Thread nD τ).loc cc4_scratch1) ↦{fullShare} f)) ∗ but4 c) :=
  Pipeline.scopedRest_split_of_list spec4 c [cc4_scratch0, cc4_scratch1] (by decide) (by decide)

/-- The call's proof data from the valuation `V`. -/
def dat4 (c : Dev nD) : Dat τ (Elt F) (HIx 1) ℕ UU ℕ cfg4 c where
  A w := V c (Pipeline.arrRef spec4 w)
  after w t := match w with
    | ⟨0, _⟩ => blk4 V c 0 t
    | ⟨1, _⟩ => blk4 V c 1 t
    | ⟨2, _⟩ => k4_pay8 (row4 (V c main_v32) t.val) (stAt4 V c t.val).1 (V c main_v34) (stAt4 V c t.val).2
    | ⟨3, _⟩ => k4_pay5 (row4 (V c main_v32) t.val) (stAt4 V c t.val).1 (V c main_v34) (stAt4 V c t.val).2
    | ⟨4, _⟩ => k4_pay4 (row4 (V c main_v32) t.val) (stAt4 V c t.val).1 (V c main_v34) (stAt4 V c t.val).2
  Φ n := Phi4 V c n.val
  q _ := fullShare
  owed _ := 0
  recorded _ := recB (F := F) c

/-- The family of the call: its own data at pipeline 3. -/
def pd4 [∀ e, Nonempty (Elt F e)] : PDats (F := F)
  | ⟨0, _⟩ => fun c => junkDat c
  | ⟨1, _⟩ => fun c => junkDat c
  | ⟨2, _⟩ => fun c => junkDat c
  | ⟨3, _⟩ => fun c => dat4 V c
  | ⟨4, _⟩ => fun c => junkDat c

theorem coord4 (t : Fin cfg4.N) : (grid4.coords t 0).val = t.val := by
  have := t.isLt; have := cfg4_N
  have e : (grid4.coords t 0).val = t.val / 1 % 128 := Pipeline.Grid.coords_val t 0 (by decide) rfl
  omega
theorem word4 (t : Fin cfg4.N) : (BitVec.ofNat 32 (grid4.coords t 0).val).toNat = t.val := by
  have := t.isLt; have := cfg4_N
  rw [coord4, BitVec.toNat_ofNat]; omega
theorem idx4_0 (t : Fin cfg4.N) : win4_0.index t = ![t.val, 0, 0] :=
  show ![(BitVec.ofNat 32 (grid4.coords t 0).val).toNat, 0, 0] = _ from by rw [word4]
theorem idx4_1 (t : Fin cfg4.N) (a) : win4_1.index t a = 0 := by
  match a with | ⟨0, _⟩ => rfl | ⟨1, _⟩ => rfl
theorem idx4_2 (t : Fin cfg4.N) : win4_2.index t = ![t.val, 0, 0] :=
  show ![(BitVec.ofNat 32 (grid4.coords t 0).val).toNat, 0, 0] = _ from by rw [word4]

theorem blk4_0 (c : Dev nD) (t : Fin cfg4.N) : blk4 V c 0 t = row4 (V c main_v32) t.val := by
  have ht : t.val % 128 = t.val := Nat.mod_eq_of_lt (lt_of_lt_of_eq t.isLt cfg4_N)
  unfold blk4 row4; funext y; rw [View.read_apply]
  have hy : (y 0).val < 1 := (y 0).isLt
  blk_ext [idx4_0, ht]
theorem blk4_1 (c : Dev nD) (t : Fin cfg4.N) : blk4 V c 1 t = V c main_v34 := by
  unfold blk4; funext y; rw [View.read_apply]; blk_ext [idx4_1]

theorem before4_0 (c : Dev nD) (t : Fin cfg4.N) (d) : (dat4 V c).before 0 t d = row4 (V c main_v32) t.val :=
  ((dat4 V c).before_in_eq_fetched 0 rfl (fun _ => rfl) (fun _ _ _ => rfl) (fun t => rfl) t d).trans (blk4_0 V c t)
theorem before4_1 (c : Dev nD) (t : Fin cfg4.N) (d) : (dat4 V c).before 1 t d = V c main_v34 :=
  ((dat4 V c).before_in_eq_fetched 1 rfl (fun _ => rfl) (fun _ _ _ => rfl) (fun t => rfl) t d).trans (blk4_1 V c t)

theorem defs₀_row4 (t : Fin cfg4.N) :
    (defs₀ (F := F)) .tc cfg4.body (cfg4.bodyArgs t (cfg4.slots t))
      = cc4_body (grid4.coords t) (win4_0.stage (cfg4.slots t 0)) (hstage4_0 ((cfg4.slots t 0).cast nbuf4_0))
          (win4_1.stage (cfg4.slots t 1)) (hstage4_1 ((cfg4.slots t 1).cast nbuf4_1))
          (win4_2.stage (cfg4.slots t 2)) (hstage4_2 ((cfg4.slots t 2).cast nbuf4_2))
          (win4_3.stage (cfg4.slots t 3)) (hstage4_3 ((cfg4.slots t 3).cast nbuf4_3))
          (win4_4.stage (cfg4.slots t 4)) (hstage4_4 ((cfg4.slots t 4).cast nbuf4_4))
          (Memref.whole cc4_scratch0) (Memref.isWhole_whole _) (Memref.whole cc4_scratch1) (Memref.isWhole_whole _) := rfl

theorem hfirst4 : ∀ t : Fin cfg4.N, first4 (grid4.coords t) = 1#1 ↔ t.val = 0 := by decide +kernel
theorem hlast4 : ∀ t : Fin cfg4.N, k4_cond2 (grid4.coords t) = 1#1 ↔ t.val = 127 := by decide +kernel
theorem idle4_3 : ∀ t : Fin cfg4.N, ¬t.val = 127 → cfg4.idle 3 (cfg4.grid.coords t) = true := by decide +kernel
theorem idle4_4 : ∀ t : Fin cfg4.N, ¬t.val = 127 → cfg4.idle 4 (cfg4.grid.coords t) = true := by decide +kernel
theorem live4_3 : ∀ t : Fin cfg4.N, t.val = 127 → cfg4.idle 3 (cfg4.grid.coords t) = false := by decide +kernel
theorem live4_4 : ∀ t : Fin cfg4.N, t.val = 127 → cfg4.idle 4 (cfg4.grid.coords t) = false := by decide +kernel
theorem flush4_3 : ∀ t : Fin cfg4.N, ¬t.val = 127 → (cfg4.win 3).flush t = false := by decide +kernel
theorem flush4_4 : ∀ t : Fin cfg4.N, ¬t.val = 127 → (cfg4.win 4).flush t = false := by decide +kernel

/-- The body obligation at one point, its windows one by one. -/
theorem point4 [∀ e, Nonempty (Elt F e)] (c : Dev nD) (t : Fin cfg4.N) :
    iprop(Phi4 V c t.val ∗ (dat4 V c).owesAt none t.castSucc
        ∗ (∃ d, owns (c : Thread nD τ) (win4_0.stage (cfg4.slots t 0)) fullShare ((dat4 V c).before 0 t d))
        ∗ (∃ d, owns (c : Thread nD τ) (win4_1.stage (cfg4.slots t 1)) fullShare ((dat4 V c).before 1 t d))
        ∗ (∃ d, owns (c : Thread nD τ) (win4_2.stage (cfg4.slots t 2)) fullShare ((dat4 V c).before 2 t d))
        ∗ (∃ d, owns (c : Thread nD τ) (win4_3.stage (cfg4.slots t 3)) fullShare ((dat4 V c).before 3 t d))
        ∗ (∃ d, owns (c : Thread nD τ) (win4_4.stage (cfg4.slots t 4)) fullShare ((dat4 V c).before 4 t d)))
      ⊢ wp frame (wpE (defs₀ (F := F)) Variants.none c none) Set.univ ((defs₀ (F := F)) .tc cfg4.body (cfg4.bodyArgs t (cfg4.slots t)))
        (fun _ => iprop(Phi4 V c (t.val + 1) ∗ (dat4 V c).owesAt none t.castSucc
          ∗ owns (c : Thread nD τ) (win4_0.stage (cfg4.slots t 0)) fullShare (row4 (V c main_v32) t.val)
          ∗ owns (c : Thread nD τ) (win4_1.stage (cfg4.slots t 1)) fullShare (V c main_v34)
          ∗ owns (c : Thread nD τ) (win4_2.stage (cfg4.slots t 2)) fullShare ((dat4 V c).after 2 t)
          ∗ (dat4 V c).leavesExact 3 t ∗ (dat4 V c).leavesExact 4 t)) := by
  rw [defs₀_row4]
  by_cases hl : t.val = 127
  · rw [show (dat4 V c).leavesExact 3 t = owns (c : Thread nD τ) (win4_3.stage (cfg4.slots t 3)) fullShare ((dat4 V c).after 3 t) from by
        unfold Dat.leavesExact; rw [live4_3 t hl],
      show (dat4 V c).leavesExact 4 t = owns (c : Thread nD τ) (win4_4.stage (cfg4.slots t 4)) fullShare ((dat4 V c).after 4 t) from by
        unfold Dat.leavesExact; rw [live4_4 t hl]]
    rw [show Phi4 V c t.val = iprop(owns (c : Thread nD τ) (Memref.whole cc4_scratch0) fullShare (stAt4 V c t.val).1
        ∗ owns (c : Thread nD τ) (Memref.whole cc4_scratch1) fullShare (stAt4 V c t.val).2 ∗ but4 c) from by rw [hl]; rfl]
    iintro ⟨⟨Hh, Hc, Hr⟩, HO, ⟨%d0, H0⟩, ⟨%d1, H1⟩, ⟨%d2, H2⟩, ⟨%d3, H3⟩, ⟨%d4, H4⟩⟩
    rw [before4_0, before4_1]
    iapply (run4_last c (grid4.coords t) (fun h => by have := (hfirst4 t).mp h; omega) ((hlast4 t).mpr hl) _ _ _ _ _ _ _ _ _ _ _ _ _ _
      (row4 (V c main_v32) t.val) (V c main_v34) _ _ _ (stAt4 V c t.val).1 (stAt4 V c t.val).2 Set.univ _)
    isplitl [H0]; · iexact H0
    isplitl [H1]; · iexact H1
    isplitl [H2]; · iexact H2
    isplitl [H3]; · iexact H3
    isplitl [H4]; · iexact H4
    isplitl [Hh]; · iexact Hh
    isplitl [Hc]; · iexact Hc
    iintro ⟨H0, H1, H2, H3, H4, Hh, Hc⟩
    isplitl [Hh Hc Hr]
    · unfold Phi4
      isplitl [Hh]; · iexact Hh
      isplitl [Hc]; · iexact Hc
      iexact Hr
    isplitl [HO]; · iexact HO
    isplitl [H0]; · iexact H0
    isplitl [H1]; · iexact H1
    isplitl [H2]; · iexact H2
    isplitl [H3]; · iexact H3
    iexact H4
  rw [Dat.leavesExact_idle (dat4 V c) 3 t (idle4_3 t hl) (flush4_3 t hl), Dat.leavesExact_idle (dat4 V c) 4 t (idle4_4 t hl) (flush4_4 t hl)]
  by_cases hf : t.val = 0
  · rw [show Phi4 V c t.val = Pipeline.scopedRest spec4 c from by rw [hf]; rfl, rest4]
    iintro ⟨⟨⟨⟨%f0, Hh⟩, ⟨%f1, Hc⟩⟩, Hr⟩, HO, ⟨%d0, H0⟩, ⟨%d1, H1⟩, ⟨%d2, H2⟩, ⟨%d3, H3⟩, ⟨%d4, H4⟩⟩
    rw [before4_0, before4_1]
    iapply (run4_first c (grid4.coords t) ((hfirst4 t).mpr hf) (fun h => hl ((hlast4 t).mp h)) _ _ _ _ _ _ _ _ _ _ _ _ _ _
      (row4 (V c main_v32) t.val) (V c main_v34) _ _ _ f0 f1 Set.univ _)
    isplitl [H0]; · iexact H0
    isplitl [H1]; · iexact H1
    isplitl [H2]; · iexact H2
    isplitl [H3]; · iexact H3
    isplitl [H4]; · iexact H4
    isplitl [Hh]; · rw [owns_whole]; iexact Hh
    isplitl [Hc]; · rw [owns_whole]; iexact Hc
    iintro ⟨H0, H1, H2, H3, H4, Hh, Hc⟩
    rw [show from4 true (f0, f1) = stAt4 V c t.val from by rw [hf]; rfl]
    isplitl [Hh Hc Hr]
    · unfold Phi4
      isplitl [Hh]; · iexact Hh
      isplitl [Hc]; · iexact Hc
      iexact Hr
    isplitl [HO]; · iexact HO
    isplitl [H0]; · iexact H0
    isplitl [H1]; · iexact H1
    isplitl [H2]; · iexact H2
    isplitl [H3]; · iexists d3; iexact H3
    iexists d4; iexact H4
  rw [show Phi4 V c t.val = iprop(owns (c : Thread nD τ) (Memref.whole cc4_scratch0) fullShare (stAt4 V c t.val).1
      ∗ owns (c : Thread nD τ) (Memref.whole cc4_scratch1) fullShare (stAt4 V c t.val).2 ∗ but4 c) from by
    obtain ⟨n, hn⟩ := Nat.exists_eq_succ_of_ne_zero hf
    rw [hn]; rfl]
  iintro ⟨⟨Hh, Hc, Hr⟩, HO, ⟨%d0, H0⟩, ⟨%d1, H1⟩, ⟨%d2, H2⟩, ⟨%d3, H3⟩, ⟨%d4, H4⟩⟩
  rw [before4_0, before4_1]
  iapply (run4_mid c (grid4.coords t) (fun h => hf ((hfirst4 t).mp h)) (fun h => hl ((hlast4 t).mp h)) _ _ _ _ _ _ _ _ _ _ _ _ _ _
    (row4 (V c main_v32) t.val) (V c main_v34) _ _ _ (stAt4 V c t.val).1 (stAt4 V c t.val).2 Set.univ _)
  isplitl [H0]; · iexact H0
  isplitl [H1]; · iexact H1
  isplitl [H2]; · iexact H2
  isplitl [H3]; · iexact H3
  isplitl [H4]; · iexact H4
  isplitl [Hh]; · iexact Hh
  isplitl [Hc]; · iexact Hc
  iintro ⟨H0, H1, H2, H3, H4, Hh, Hc⟩
  isplitl [Hh Hc Hr]
  · unfold Phi4
    isplitl [Hh]; · iexact Hh
    isplitl [Hc]; · iexact Hc
    iexact Hr
  isplitl [HO]; · iexact HO
  isplitl [H0]; · iexact H0
  isplitl [H1]; · iexact H1
  isplitl [H2]; · iexact H2
  isplitl [H3]; · iexists d3; iexact H3
  iexists d4; iexact H4

theorem bodyAt4 [∀ e, Nonempty (Elt F e)] (c : Dev nD) : BodyObligation (dat4 V c) (defs₀ (F := F)) 𝒱₀ none Set.univ := fun t => by
  rw [bigSep_five2, bigSep_five2]
  rw [show (dat4 V c).owesAt none t.succ = (dat4 V c).owesAt none t.castSucc from rfl]
  have h := point4 V c t
  rw [← blk4_0, ← blk4_1 V c t] at h
  exact h

theorem fin4_2 (c : Dev nD) : (dat4 V c).arrAt 2 cfg4.N = seq4 (V c main_v32) (V c main_v34) := by
  refine (dat4 V c).arrAt_eq_of_covers 2 _ (by decide +kernel) fun t hf y => ?_
  have hy : (y 0).val < 1 := (y 0).isLt
  refine Eq.trans ?_ (seq4_at _ _ t.val y _ ?_ ?_ ?_).symm
  · rfl
  · blk_simp [idx4_2]
  · blk_simp [idx4_2]
  · blk_simp [idx4_2]

theorem fin4_3 (c : Dev nD) : (dat4 V c).arrAt 3 cfg4.N = lastH4 (V c main_v32) (V c main_v34) :=
  (dat4 V c).arrAt_eq_of_after_last 3 ⟨127, by decide⟩ (by decide +kernel) _ fun j => rfl
theorem fin4_4 (c : Dev nD) : (dat4 V c).arrAt 4 cfg4.N = lastC4 (V c main_v32) (V c main_v34) :=
  (dat4 V c).arrAt_eq_of_after_last 4 ⟨127, by decide⟩ (by decide +kernel) _ fun j => rfl

theorem val4_ne (c : Dev nD) (b : Ref sig .tc) (h0 : b ≠ main_v35_0) (h1 : b ≠ main_v35_1) (h2 : b ≠ main_v35_2) :
    val4 V c b = V c b := by
  unfold val4
  rw [Function.update_of_ne (fun h => h2 (Proc.devRef_injective _ h)), Function.update_of_ne (fun h => h1 (Proc.devRef_injective _ h)),
    Function.update_of_ne (fun h => h0 (Proc.devRef_injective _ h))]
theorem val4_0 (c : Dev nD) : val4 V c main_v35_0 = seq4 (V c main_v32) (V c main_v34) := by
  have h1 : (main_v35_0 : Ref sig .tc) ≠ main_v35_1 := by decide
  have h2 : (main_v35_0 : Ref sig .tc) ≠ main_v35_2 := by decide
  unfold val4
  rw [Function.update_of_ne (fun h => h2 (Proc.devRef_injective _ h)), Function.update_of_ne (fun h => h1 (Proc.devRef_injective _ h)), Function.update_self]
theorem val4_1 (c : Dev nD) : val4 V c main_v35_1 = lastH4 (V c main_v32) (V c main_v34) := by
  have h2 : (main_v35_1 : Ref sig .tc) ≠ main_v35_2 := by decide
  unfold val4
  rw [Function.update_of_ne (fun h => h2 (Proc.devRef_injective _ h)), Function.update_self]
theorem val4_2 (c : Dev nD) : val4 V c main_v35_2 = lastC4 (V c main_v32) (V c main_v34) := by
  unfold val4
  rw [Function.update_self]

set_option maxHeartbeats 1000000 in
/-- What the region of the call needs, from any valuation `V` to `val4 V`. -/
theorem facts4 [∀ e, Nonempty (Elt F e)] : RegionFacts (F := F) 3 (pd4 V) V (val4 V) where
  launch := launch3
  hA c w := rfl
  hq c w := rfl
  howed c t := rfl
  hrec c t := rfl
  hbody c := bodyAt4 V c
  hin c := by
    rw [show (pd4 V 3 c).Φ 0 = Pipeline.scopedRest spec4 c from rfl]
    iintro H; iexact H
  hout c := by
    rw [show (pd4 V 3 c).Φ _ = iprop(owns (c : Thread nD τ) (Memref.whole cc4_scratch0) fullShare (stAt4 V c 128).1
      ∗ owns (c : Thread nD τ) (Memref.whole cc4_scratch1) fullShare (stAt4 V c 128).2 ∗ but4 c) from rfl]
    rw [show (Pipeline.scopedRest (Pipeline.pin (pcfgs (F := F)) adm 3).spec c : sProp 𝕄) = Pipeline.scopedRest spec4 c from rfl, rest4, owns_whole, owns_whole]
    iintro ⟨Hh, Hc, Hr⟩
    isplitl [Hh Hc]
    · isplitl [Hh]; · iexists _; iexact Hh
      iexists _; iexact Hc
    iexact Hr
  hfin c w := by
    fin_cases w
    · exact ((dat4 V c).arrAt_in 0 rfl _).trans (val4_ne V c main_v32 (by decide) (by decide) (by decide)).symm
    · exact ((dat4 V c).arrAt_in 1 rfl _).trans (val4_ne V c main_v34 (by decide) (by decide) (by decide)).symm
    · exact (fin4_2 V c).trans (val4_0 V c).symm
    · exact (fin4_3 V c).trans (val4_1 V c).symm
    · exact (fin4_4 V c).trans (val4_2 V c).symm
  hne c b hb := by
    unfold val4
    rw [Function.update_of_ne fun h => hb (Finset.mem_image.mpr ⟨(4 : Fin 5), Finset.mem_univ _, (Proc.devRef_injective _ h).symm⟩),
      Function.update_of_ne fun h => hb (Finset.mem_image.mpr ⟨(3 : Fin 5), Finset.mem_univ _, (Proc.devRef_injective _ h).symm⟩),
      Function.update_of_ne fun h => hb (Finset.mem_image.mpr ⟨(2 : Fin 5), Finset.mem_univ _, (Proc.devRef_injective _ h).symm⟩)]

end Cert.KernelIdeal.Sc
-- ==== Proof.Ideal.Launch.lean ====
/-
  The whole program's run: the host operations, the SparseCore call and the five TensorCore calls; at the end every
  array of the program is at `endVal m d`, and every semaphore is at zero (`run_main`).
-/
module

public import proofs.«01_k».proof.Proof.Ideal.TcGatesB
public import proofs.«01_k».proof.Proof.Ideal.TcGatesC
public import proofs.«01_k».proof.Proof.Ideal.TcRecA
public import proofs.«01_k».proof.Proof.Ideal.TcRecB
public import Idealize.ShloMosaic.Lib.Pipeline.Frame

@[expose] public section

noncomputable section

namespace Cert.KernelIdeal.Sc

open Cert.KernelIdeal Cert.KernelIdeal.Gen

open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

set_option maxRecDepth 16384

open StableHlo (unary binary nullary reshape)

/-! ## The program as its stretches -/

/-- The host operations before the SparseCore call: the flat list of row numbers and the table read in quarter rows. -/
def opsPre : List (HloOp τ sig (Elt F)) :=
  [StableHlo.unary main_arg0 main_v0 ((transpose S128x8 [1, 0] · transposes_S8x128_S128x8_1_0) : (⟨S8x128, .i32⟩ : BufTy).Contents (Elt F) → (⟨S128x8, .i32⟩ : BufTy).Contents (Elt F)),
   StableHlo.reshape main_v0 main_v1 (rfl : (.i32 : EltTy) = .i32) shapeCasts_S128x8_S1024,
   StableHlo.reshape main_arg1 main_v2 (rfl : (.f32 : EltTy) = .f32) shapeCasts_S32000x512_S128000x128,
   StableHlo.unary main_v1 main_v3 (broadcastInDim S1024x1 ![0] bcast_S1024_S1024x1_0 : (⟨S1024, .i32⟩ : BufTy).Contents (Elt F) → (⟨S1024x1, .i32⟩ : BufTy).Contents (Elt F)),
   StableHlo.nullary main_c (constantI S_ 32 4#32),
   StableHlo.unary main_c main_v4 (broadcastInDim S1024x1 ![] bcast_S_S1024x1 : (⟨S_, .i32⟩ : BufTy).Contents (Elt F) → (⟨S1024x1, .i32⟩ : BufTy).Contents (Elt F)),
   StableHlo.binary main_v3 main_v4 main_v5 (muli : (⟨S1024x1, .i32⟩ : BufTy).Contents (Elt F) → (⟨S1024x1, .i32⟩ : BufTy).Contents (Elt F) → (⟨S1024x1, .i32⟩ : BufTy).Contents (Elt F)),
   StableHlo.nullary main_v6 (iotaInDim S4 32 0),
   StableHlo.unary main_v6 main_v7 (broadcastInDim S1x4 ![1] bcast_S4_S1x4_1 : (⟨S4, .i32⟩ : BufTy).Contents (Elt F) → (⟨S1x4, .i32⟩ : BufTy).Contents (Elt F)),
   StableHlo.unary main_v5 main_v8 (broadcastInDim S1024x4 ![0, 1] bcast_S1024x1_S1024x4_0_1 : (⟨S1024x1, .i32⟩ : BufTy).Contents (Elt F) → (⟨S1024x4, .i32⟩ : BufTy).Contents (Elt F)),
   StableHlo.unary main_v7 main_v9 (broadcastInDim S1024x4 ![0, 1] bcast_S1x4_S1024x4_0_1 : (⟨S1x4, .i32⟩ : BufTy).Contents (Elt F) → (⟨S1024x4, .i32⟩ : BufTy).Contents (Elt F)),
   StableHlo.binary main_v8 main_v9 main_v10 (addi : (⟨S1024x4, .i32⟩ : BufTy).Contents (Elt F) → (⟨S1024x4, .i32⟩ : BufTy).Contents (Elt F) → (⟨S1024x4, .i32⟩ : BufTy).Contents (Elt F)),
   StableHlo.reshape main_v10 main_v11 (rfl : (.i32 : EltTy) = .i32) shapeCasts_S1024x4_S4096,
   StableHlo.reshape main_v11 main_v12 (rfl : (.i32 : EltTy) = .i32) shapeCasts_S4096_S1x4096]

theorem opsPre_sub : ∀ op ∈ (opsPre : List (HloOp τ sig (Elt F))), op.bufs ⊆ Pipeline.ucRefs τ sig :=
  fun op h => Pipeline.sub_ucRefs op (by
    simp only [opsPre, List.mem_cons, List.not_mem_nil, or_false] at h
    rcases h with h | h | h | h | h | h | h | h | h | h | h | h | h | h <;> subst h <;> simp only [StableHlo.nullary_bufs_sub, StableHlo.unary_bufs_sub, StableHlo.binary_bufs_sub, StableHlo.reshape_bufs_sub])
theorem opsPre_fresh : ∀ op ∈ (opsPre : List (HloOp τ sig (Elt F))), op.fresh = ∅ :=
  fun op h => by
    simp only [opsPre, List.mem_cons, List.not_mem_nil, or_false] at h
    rcases h with h | h | h | h | h | h | h | h | h | h | h | h | h | h <;> subst h <;> rfl

/-- Between the gather and the first `in_gates`. -/
def ops1 : List (HloOp τ sig (Elt F)) :=
  [StableHlo.reshape main_v13 main_v14 (rfl : (.f32 : EltTy) = .f32) shapeCasts_S4096x128_S1024x512,
   StableHlo.unary main_v14 main_v15 ((truncf .bf16 · bitsLt_bf16_f32) : (⟨S1024x512, .f32⟩ : BufTy).Contents (Elt F) → (⟨S1024x512, .bf16⟩ : BufTy).Contents (Elt F)),
   StableHlo.unary main_arg2 main_v16 ((truncf .bf16 · bitsLt_bf16_f32) : (⟨S4096x512, .f32⟩ : BufTy).Contents (Elt F) → (⟨S4096x512, .bf16⟩ : BufTy).Contents (Elt F)),
   StableHlo.unary main_v16 main_v17 ((transpose S512x4096 [1, 0] · transposes_S4096x512_S512x4096_1_0) : (⟨S4096x512, .bf16⟩ : BufTy).Contents (Elt F) → (⟨S512x4096, .bf16⟩ : BufTy).Contents (Elt F)),
   StableHlo.binary main_arg4 main_arg5 main_v18 (addf : (⟨S4096, .f32⟩ : BufTy).Contents (Elt F) → (⟨S4096, .f32⟩ : BufTy).Contents (Elt F) → (⟨S4096, .f32⟩ : BufTy).Contents (Elt F)),
   StableHlo.reshape main_v18 main_v19 (rfl : (.f32 : EltTy) = .f32) shapeCasts_S4096_S1x4096]

theorem ops1_sub : ∀ op ∈ (ops1 : List (HloOp τ sig (Elt F))), op.bufs ⊆ Pipeline.ucRefs τ sig :=
  fun op h => Pipeline.sub_ucRefs op (by
    simp only [ops1, List.mem_cons, List.not_mem_nil, or_false] at h
    rcases h with h | h | h | h | h | h <;> subst h <;> simp only [StableHlo.nullary_bufs_sub, StableHlo.unary_bufs_sub, StableHlo.binary_bufs_sub, StableHlo.reshape_bufs_sub])
theorem ops1_fresh : ∀ op ∈ (ops1 : List (HloOp τ sig (Elt F))), op.fresh = ∅ :=
  fun op h => by
    simp only [ops1, List.mem_cons, List.not_mem_nil, or_false] at h
    rcases h with h | h | h | h | h | h <;> subst h <;> rfl

/-- Between it and the first `lstm_rec`. -/
def ops2 : List (HloOp τ sig (Elt F)) :=
  [StableHlo.reshape main_v20 main_v21 (rfl : (.f32 : EltTy) = .f32) shapeCasts_S1024x4096_S128x8x4096,
   StableHlo.unary main_arg3 main_v22 ((truncf .bf16 · bitsLt_bf16_f32) : (⟨S4096x1024, .f32⟩ : BufTy).Contents (Elt F) → (⟨S4096x1024, .bf16⟩ : BufTy).Contents (Elt F)),
   StableHlo.unary main_v22 main_v23 ((transpose S1024x4096 [1, 0] · transposes_S4096x1024_S1024x4096_1_0) : (⟨S4096x1024, .bf16⟩ : BufTy).Contents (Elt F) → (⟨S1024x4096, .bf16⟩ : BufTy).Contents (Elt F))]

theorem ops2_sub : ∀ op ∈ (ops2 : List (HloOp τ sig (Elt F))), op.bufs ⊆ Pipeline.ucRefs τ sig :=
  fun op h => Pipeline.sub_ucRefs op (by
    simp only [ops2, List.mem_cons, List.not_mem_nil, or_false] at h
    rcases h with h | h | h <;> subst h <;> simp only [StableHlo.nullary_bufs_sub, StableHlo.unary_bufs_sub, StableHlo.binary_bufs_sub, StableHlo.reshape_bufs_sub])
theorem ops2_fresh : ∀ op ∈ (ops2 : List (HloOp τ sig (Elt F))), op.fresh = ∅ :=
  fun op h => by
    simp only [ops2, List.mem_cons, List.not_mem_nil, or_false] at h
    rcases h with h | h | h <;> subst h <;> rfl

/-- Between it and the second `in_gates`. -/
def ops3 : List (HloOp τ sig (Elt F)) :=
  [StableHlo.reshape main_v24_0 main_v25 (rfl : (.f32 : EltTy) = .f32) shapeCasts_S128x8x1024_S1024x1024,
   StableHlo.unary main_v25 main_v26 ((truncf .bf16 · bitsLt_bf16_f32) : (⟨S1024x1024, .f32⟩ : BufTy).Contents (Elt F) → (⟨S1024x1024, .bf16⟩ : BufTy).Contents (Elt F)),
   StableHlo.unary main_arg6 main_v27 ((truncf .bf16 · bitsLt_bf16_f32) : (⟨S4096x1024, .f32⟩ : BufTy).Contents (Elt F) → (⟨S4096x1024, .bf16⟩ : BufTy).Contents (Elt F)),
   StableHlo.unary main_v27 main_v28 ((transpose S1024x4096 [1, 0] · transposes_S4096x1024_S1024x4096_1_0) : (⟨S4096x1024, .bf16⟩ : BufTy).Contents (Elt F) → (⟨S1024x4096, .bf16⟩ : BufTy).Contents (Elt F)),
   StableHlo.binary main_arg8 main_arg9 main_v29 (addf : (⟨S4096, .f32⟩ : BufTy).Contents (Elt F) → (⟨S4096, .f32⟩ : BufTy).Contents (Elt F) → (⟨S4096, .f32⟩ : BufTy).Contents (Elt F)),
   StableHlo.reshape main_v29 main_v30 (rfl : (.f32 : EltTy) = .f32) shapeCasts_S4096_S1x4096]

theorem ops3_sub : ∀ op ∈ (ops3 : List (HloOp τ sig (Elt F))), op.bufs ⊆ Pipeline.ucRefs τ sig :=
  fun op h => Pipeline.sub_ucRefs op (by
    simp only [ops3, List.mem_cons, List.not_mem_nil, or_false] at h
    rcases h with h | h | h | h | h | h <;> subst h <;> simp only [StableHlo.nullary_bufs_sub, StableHlo.unary_bufs_sub, StableHlo.binary_bufs_sub, StableHlo.reshape_bufs_sub])
theorem ops3_fresh : ∀ op ∈ (ops3 : List (HloOp τ sig (Elt F))), op.fresh = ∅ :=
  fun op h => by
    simp only [ops3, List.mem_cons, List.not_mem_nil, or_false] at h
    rcases h with h | h | h | h | h | h <;> subst h <;> rfl

/-- Between it and the second `lstm_rec`. -/
def ops4 : List (HloOp τ sig (Elt F)) :=
  [StableHlo.reshape main_v31 main_v32 (rfl : (.f32 : EltTy) = .f32) shapeCasts_S1024x4096_S128x8x4096,
   StableHlo.unary main_arg7 main_v33 ((truncf .bf16 · bitsLt_bf16_f32) : (⟨S4096x1024, .f32⟩ : BufTy).Contents (Elt F) → (⟨S4096x1024, .bf16⟩ : BufTy).Contents (Elt F)),
   StableHlo.unary main_v33 main_v34 ((transpose S1024x4096 [1, 0] · transposes_S4096x1024_S1024x4096_1_0) : (⟨S4096x1024, .bf16⟩ : BufTy).Contents (Elt F) → (⟨S1024x4096, .bf16⟩ : BufTy).Contents (Elt F))]

theorem ops4_sub : ∀ op ∈ (ops4 : List (HloOp τ sig (Elt F))), op.bufs ⊆ Pipeline.ucRefs τ sig :=
  fun op h => Pipeline.sub_ucRefs op (by
    simp only [ops4, List.mem_cons, List.not_mem_nil, or_false] at h
    rcases h with h | h | h <;> subst h <;> simp only [StableHlo.nullary_bufs_sub, StableHlo.unary_bufs_sub, StableHlo.binary_bufs_sub, StableHlo.reshape_bufs_sub])
theorem ops4_fresh : ∀ op ∈ (ops4 : List (HloOp τ sig (Elt F))), op.fresh = ∅ :=
  fun op h => by
    simp only [ops4, List.mem_cons, List.not_mem_nil, or_false] at h
    rcases h with h | h | h <;> subst h <;> rfl

/-- Between it and `fc`. -/
def ops5 : List (HloOp τ sig (Elt F)) :=
  [StableHlo.unary main_v35_0 main_v36 ((transpose S8x128x1024 [1, 0, 2] · transposes_S128x8x1024_S8x128x1024_1_0_2) : (⟨S128x8x1024, .f32⟩ : BufTy).Contents (Elt F) → (⟨S8x128x1024, .f32⟩ : BufTy).Contents (Elt F)),
   StableHlo.reshape main_v36 main_v37 (rfl : (.f32 : EltTy) = .f32) shapeCasts_S8x128x1024_S1024x1024,
   StableHlo.unary main_v37 main_v38 ((truncf .bf16 · bitsLt_bf16_f32) : (⟨S1024x1024, .f32⟩ : BufTy).Contents (Elt F) → (⟨S1024x1024, .bf16⟩ : BufTy).Contents (Elt F)),
   StableHlo.unary main_arg10 main_v39 ((truncf .bf16 · bitsLt_bf16_f32) : (⟨S32000x1024, .f32⟩ : BufTy).Contents (Elt F) → (⟨S32000x1024, .bf16⟩ : BufTy).Contents (Elt F)),
   StableHlo.unary main_v39 main_v40 ((transpose S1024x32000 [1, 0] · transposes_S32000x1024_S1024x32000_1_0) : (⟨S32000x1024, .bf16⟩ : BufTy).Contents (Elt F) → (⟨S1024x32000, .bf16⟩ : BufTy).Contents (Elt F)),
   StableHlo.reshape main_arg11 main_v41 (rfl : (.f32 : EltTy) = .f32) shapeCasts_S32000_S1x32000]

theorem ops5_sub : ∀ op ∈ (ops5 : List (HloOp τ sig (Elt F))), op.bufs ⊆ Pipeline.ucRefs τ sig :=
  fun op h => Pipeline.sub_ucRefs op (by
    simp only [ops5, List.mem_cons, List.not_mem_nil, or_false] at h
    rcases h with h | h | h | h | h | h <;> subst h <;> simp only [StableHlo.nullary_bufs_sub, StableHlo.unary_bufs_sub, StableHlo.binary_bufs_sub, StableHlo.reshape_bufs_sub])
theorem ops5_fresh : ∀ op ∈ (ops5 : List (HloOp τ sig (Elt F))), op.fresh = ∅ :=
  fun op h => by
    simp only [ops5, List.mem_cons, List.not_mem_nil, or_false] at h
    rcases h with h | h | h | h | h | h <;> subst h <;> rfl

/-- After `fc`. -/
def opsPost : List (HloOp τ sig (Elt F)) :=
  [StableHlo.reshape main_v42 main_v43 (rfl : (.f32 : EltTy) = .f32) shapeCasts_S1024x32000_S8x128x32000,
   StableHlo.unary main_v24_1 main_v44 (broadcastInDim S1x8x1024 ![1, 2] bcast_S8x1024_S1x8x1024_1_2 : (⟨S8x1024, .f32⟩ : BufTy).Contents (Elt F) → (⟨S1x8x1024, .f32⟩ : BufTy).Contents (Elt F)),
   StableHlo.unary main_v35_1 main_v45 (broadcastInDim S1x8x1024 ![1, 2] bcast_S8x1024_S1x8x1024_1_2 : (⟨S8x1024, .f32⟩ : BufTy).Contents (Elt F) → (⟨S1x8x1024, .f32⟩ : BufTy).Contents (Elt F)),
   StableHlo.binary main_v44 main_v45 main_v46 ((fun a b => concatenate S2x8x1024 0 [⟨S1x8x1024, a⟩, ⟨S1x8x1024, b⟩] concatenates_S1x8x1024_S1x8x1024_S2x8x1024_d0) : (⟨S1x8x1024, .f32⟩ : BufTy).Contents (Elt F) → (⟨S1x8x1024, .f32⟩ : BufTy).Contents (Elt F) → (⟨S2x8x1024, .f32⟩ : BufTy).Contents (Elt F)),
   StableHlo.unary main_v24_2 main_v47 (broadcastInDim S1x8x1024 ![1, 2] bcast_S8x1024_S1x8x1024_1_2 : (⟨S8x1024, .f32⟩ : BufTy).Contents (Elt F) → (⟨S1x8x1024, .f32⟩ : BufTy).Contents (Elt F)),
   StableHlo.unary main_v35_2 main_v48 (broadcastInDim S1x8x1024 ![1, 2] bcast_S8x1024_S1x8x1024_1_2 : (⟨S8x1024, .f32⟩ : BufTy).Contents (Elt F) → (⟨S1x8x1024, .f32⟩ : BufTy).Contents (Elt F)),
   StableHlo.binary main_v47 main_v48 main_v49 ((fun a b => concatenate S2x8x1024 0 [⟨S1x8x1024, a⟩, ⟨S1x8x1024, b⟩] concatenates_S1x8x1024_S1x8x1024_S2x8x1024_d0) : (⟨S1x8x1024, .f32⟩ : BufTy).Contents (Elt F) → (⟨S1x8x1024, .f32⟩ : BufTy).Contents (Elt F) → (⟨S2x8x1024, .f32⟩ : BufTy).Contents (Elt F))]

theorem opsPost_sub : ∀ op ∈ (opsPost : List (HloOp τ sig (Elt F))), op.bufs ⊆ Pipeline.ucRefs τ sig :=
  fun op h => Pipeline.sub_ucRefs op (by
    simp only [opsPost, List.mem_cons, List.not_mem_nil, or_false] at h
    rcases h with h | h | h | h | h | h | h <;> subst h <;> simp only [StableHlo.nullary_bufs_sub, StableHlo.unary_bufs_sub, StableHlo.binary_bufs_sub, StableHlo.reshape_bufs_sub])
theorem opsPost_fresh : ∀ op ∈ (opsPost : List (HloOp τ sig (Elt F))), op.fresh = ∅ :=
  fun op h => by
    simp only [opsPost, List.mem_cons, List.not_mem_nil, or_false] at h
    rcases h with h | h | h | h | h | h | h <;> subst h <;> rfl

/-- The entry of pipeline `p`'s region, as @main calls it. -/
abbrev ent (p : Fin 5) : Prog (TpuEff nD τ sig (Elt F) (SparseCore.Sig (ΛP (F := F)) 1) .tc) PUnit :=
  Prog.lift (.customCall (SparseCore.inner (Pipeline.entry p)) ())

theorem main_eq (d : Dev nD) : (main (F := F) d) = StableHlo.seq opsPre >>= fun _ => ((K (F := F)).run d 0 >>= fun _ =>
    StableHlo.seq ops1 >>= fun _ => ent 0 >>= fun _ => StableHlo.seq ops2 >>= fun _ => ent 1 >>= fun _ => StableHlo.seq ops3 >>= fun _ => ent 2 >>= fun _ =>
    StableHlo.seq ops4 >>= fun _ => ent 3 >>= fun _ => StableHlo.seq ops5 >>= fun _ => ent 4 >>= fun _ => StableHlo.seq opsPost >>= fun _ => pure PUnit.unit) := by
  simp only [main, opsPre, ops1, ops2, ops3, ops4, ops5, opsPost, StableHlo.seq, bind_assoc, pure_bind]

variable (m : (ℓ : Loc nD τ sig) → Buf (Elt F) ℓ) (ρ : Dev nD → PrngReg)

/-- The arrays at launch, -/
def launchVal (d : Dev nD) : Valuation τ sig (Elt F) := fun b => m (d, b)
/-- at the SparseCore call, -/
def callIn (d : Dev nD) : Valuation τ sig (Elt F) := StableHlo.after opsPre (launchVal m d)
/-- at each TensorCore call, and after the host operations that follow, -/
def in1 (d : Dev nD) : Valuation τ sig (Elt F) := StableHlo.after ops1 (callVal (callIn m d))
def in2 (d : Dev nD) : Valuation τ sig (Elt F) := StableHlo.after ops2 (val1 (in1 m) d)
def in3 (d : Dev nD) : Valuation τ sig (Elt F) := StableHlo.after ops3 (val2 (in2 m) d)
def in4 (d : Dev nD) : Valuation τ sig (Elt F) := StableHlo.after ops4 (val3 (in3 m) d)
def in5 (d : Dev nD) : Valuation τ sig (Elt F) := StableHlo.after ops5 (val4 (in4 m) d)
/-- and at the end. -/
def endVal (d : Dev nD) : Valuation τ sig (Elt F) := StableHlo.after opsPost (val5 (in5 m) d)

abbrev PP : (K (F := F)).Pay (nD := nD) (Val := Elt F) (Name := ℕ) (U := UU) := P (fun d => callIn m d tR) (fun d => callIn m d xR)

/-! ## The launch element of the ghost state -/

/-- The cells and tokens of the five pipelines. -/
def uP : UP := initOf (Pipeline.cells (nD := nD) (τ := τ) (Pipeline.pin (pcfgs (F := F)) adm) phinj') (Pipeline.launchToks (Pipeline.pin (pcfgs (F := F)) adm) phinj')

def u₀ : UU := (initOf (K (F := F)).hsCells (K (F := F)).hsToks, (uP (F := F), 1))

/-- The ghost state core `d` starts with: every pipeline's. -/
abbrev GG (d : Dev nD) : sProp 𝕄 := bigSep Finset.univ fun p : Fin 5 => gh p d

theorem deal_uP : (BI.own ((Emb.trans Emb.inl (embR (A := UH) (B := UP × Counters) (nD := nD) (τ := τ) (sig := sig) (Ix := HIx 1) (Val := Elt F) (Name := ℕ) (Lvl := ℕ))) (uP (F := F))) : sProp 𝕄)
    ⊢ iprop(|==> ((bigSep Finset.univ fun c : Dev nD => bigSep Finset.univ fun p => Pipeline.cellsGhost (Pipeline.pin (pcfgs (F := F)) adm) EP p c)
          ∗ (bigSep Finset.univ fun c : Dev nD => bigSep Finset.univ fun p => (Pipeline.toksInit (Pipeline.pin (pcfgs (F := F)) adm) EP p c : sProp 𝕄)))) :=
  Pipeline.fund_ghost (Ix := HIx 1) (Val := Elt F) (Name := ℕ) (U := UU) (Lvl := ℕ) (Pipeline.pin (pcfgs (F := F)) adm) EP phinj'

theorem hu₀ : (ownU (u₀ (F := F)) : sProp 𝕄)
    ⊢ |={Set.univ}=> iprop(BI.own (EH (initOf (K (F := F)).hsCells (K (F := F)).hsToks)) ∗ (bigSep Finset.univ fun d : Dev nD => GG d)
        ∗ bigSep Finset.univ fun thr : Thread nD τ => bigSep Finset.univ fun q : Fin 1 => (PP m).x q thr) := by
  unfold u₀
  iintro Hu
  ihave H := (ownU_pair (initOf (K (F := F)).hsCells (K (F := F)).hsToks) ((uP (F := F), 1) : UP × Counters)) $$ Hu
  icases H with ⟨HH, HP⟩
  ihave HP := (own_pair_emb embR (uP (F := F)) (1 : Counters)) $$ HP
  icases HP with ⟨HP, -⟩
  ihave HP := deal_uP $$ HP
  imod HP with ⟨Hc, Ht⟩
  imodintro
  isplitl [HH]; · iexact HH
  have hx : (bigSep Finset.univ fun thr : Thread nD τ => bigSep Finset.univ fun q : Fin 1 => (PP m).x q thr) = (iprop(emp) : sProp 𝕄) :=
    (bigSep_congr fun _ _ => bigSep_univ_of_subsingleton (0 : Fin 1)).trans (bigSep_emp_const _)
  rw [hx]
  isplitl [Hc Ht]
  · simp only [GG, gh, bigSep_sep']
    isplitl [Hc]; · iexact Hc
    iexact Ht
  iempintro

/-! ## The program on a device -/

abbrev FIN (d : Dev nD) : sProp 𝕄 := StableHlo.held (T d) (Pipeline.ucRefs τ sig) (endVal m d)

theorem launch_held (d : Dev nD) : (unscopedBufs d (fun b => m ((SparseCore.T d : Thread nD τ).loc b)) : sProp 𝕄) = StableHlo.held (T d) (Pipeline.ucRefs τ sig) (launchVal m d) :=
  Pipeline.unscopedBufs_held (Ix := HIx 1) (Name := ℕ) (U := UU) (Lvl := ℕ) d (fun b => m (d, b))

/-- A stretch of host operations and the region after it. -/
theorem wp_leg [∀ e, Nonempty (Elt F e)] {p : Fin 5} {pdats : PDats (F := F)} (ops : List (HloOp τ sig (Elt F)))
    (hs : ∀ op ∈ ops, op.bufs ⊆ Pipeline.ucRefs τ sig) (hf : ∀ op ∈ ops, op.fresh = ∅)
    (V0 V V' : Dev nD → Valuation τ sig (Elt F)) (hV : ∀ d, V d = StableHlo.after ops (V0 d)) (H : RegionFacts p pdats V V')
    (κ : GSem nD τ sig → ℕ) (d : Dev nD) (k : PUnit → Prog (TpuEff nD τ sig (Elt F) (SparseCore.Sig (ΛP (F := F)) 1) .tc) PUnit) (Q : PUnit → sProp 𝕄) :
    iprop((K (F := F)).ctx EH (PP m) κ ∗ (K (F := F)).tcSt EH d 1 ∗ boundary (d : Thread nD τ) ∗ StableHlo.held (T d) (Pipeline.ucRefs τ sig) (V0 d) ∗ gh p d
        ∗ (iprop((K (F := F)).tcSt EH d 1 ∗ boundary (d : Thread nD τ) ∗ StableHlo.held (T d) (Pipeline.ucRefs τ sig) (V' d))
            -∗ wp frame (wpE ((K (F := F)).defs (D (F := F))) 𝒱 (T d) none) Set.univ (k ⟨⟩) Q))
      ⊢ wp frame (wpE ((K (F := F)).defs (D (F := F))) 𝒱 (T d) none) Set.univ (StableHlo.seq ops >>= fun _ => ent p >>= k) Q := by
  iintro ⟨#Hctx, Hst, Hb, Hh, Hg, Hk⟩
  ihave Hw := (StableHlo.wp_seq 𝒱 none Set.univ d (Pipeline.ucRefs τ sig) (fun _ => ent p >>= k) ops hs hf (V0 d)) $$ [Hb Hh]
  · isplitl [Hb] <;> iassumption
  iapply Hw
  rw [← hV]
  iintro ⟨Hb, Hh⟩
  iapply (wp_region (PP := PP m) H κ d k Q)
  isplitr; · iexact Hctx
  isplitl [Hst]; · iexact Hst
  isplitl [Hb]; · iexact Hb
  isplitl [Hh]; · iexact Hh
  isplitl [Hg]; · iexact Hg
  iexact Hk

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ GG d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [launch_held, main_eq, show (GG d : sProp 𝕄) = _ from bigSep_five2 _]
  iintro ⟨#Hctx, Hst, ⟨Hb, Hh, Hts, -⟩, Hg0, Hg1, Hg2, Hg3, Hg4⟩
  ihave Hk := (StableHlo.wp_seq 𝒱 none Set.univ d (Pipeline.ucRefs τ sig) _
    opsPre opsPre_sub opsPre_fresh (launchVal m d)) $$ [Hb Hh]
  · isplitl [Hb] <;> iassumption
  iapply Hk
  iintro ⟨Hb, Hh⟩
  rw [wp_bind]
  iapply (wp_call (Pipeline.ucRefs τ sig) (by decide) (callIn m) κ d) $$ [Hst Hb Hh Hts Hg0 Hg1 Hg2 Hg3 Hg4]
  isplitr; · iexact Hctx
  isplitl [Hst]; · iexact Hst
  isplitl [Hh]; · iexact Hh
  iintro ⟨Hst, Hh⟩
  iapply (wp_leg m ops1 ops1_sub ops1_fresh (fun d => callVal (callIn m d)) (in1 m) (val1 (in1 m)) (fun _ => rfl) (facts1 (in1 m)) κ d _ _)
  isplitr; · iexact Hctx
  isplitl [Hst]; · iexact Hst
  isplitl [Hb]; · iexact Hb
  isplitl [Hh]; · iexact Hh
  isplitl [Hg0]; · iexact Hg0
  iintro ⟨Hst, Hb, Hh⟩
  iapply (wp_leg m ops2 ops2_sub ops2_fresh (val1 (in1 m)) (in2 m) (val2 (in2 m)) (fun _ => rfl) (facts2 (in2 m)) κ d _ _)
  isplitr; · iexact Hctx
  isplitl [Hst]; · iexact Hst
  isplitl [Hb]; · iexact Hb
  isplitl [Hh]; · iexact Hh
  isplitl [Hg1]; · iexact Hg1
  iintro ⟨Hst, Hb, Hh⟩
  iapply (wp_leg m ops3 ops3_sub ops3_fresh (val2 (in2 m)) (in3 m) (val3 (in3 m)) (fun _ => rfl) (facts3 (in3 m)) κ d _ _)
  isplitr; · iexact Hctx
  isplitl [Hst]; · iexact Hst
  isplitl [Hb]; · iexact Hb
  isplitl [Hh]; · iexact Hh
  isplitl [Hg2]; · iexact Hg2
  iintro ⟨Hst, Hb, Hh⟩
  iapply (wp_leg m ops4 ops4_sub ops4_fresh (val3 (in3 m)) (in4 m) (val4 (in4 m)) (fun _ => rfl) (facts4 (in4 m)) κ d _ _)
  isplitr; · iexact Hctx
  isplitl [Hst]; · iexact Hst
  isplitl [Hb]; · iexact Hb
  isplitl [Hh]; · iexact Hh
  isplitl [Hg3]; · iexact Hg3
  iintro ⟨Hst, Hb, Hh⟩
  iapply (wp_leg m ops5 ops5_sub ops5_fresh (val4 (in4 m)) (in5 m) (val5 (in5 m)) (fun _ => rfl) (facts5 (in5 m)) κ d _ _)
  isplitr; · iexact Hctx
  isplitl [Hst]; · iexact Hst
  isplitl [Hb]; · iexact Hb
  isplitl [Hh]; · iexact Hh
  isplitl [Hg4]; · iexact Hg4
  iintro ⟨Hst, Hb, Hh⟩
  ihave Hk := (StableHlo.wp_seq 𝒱 none Set.univ d (Pipeline.ucRefs τ sig) (fun _ => pure PUnit.unit)
    opsPost opsPost_sub opsPost_fresh (val5 (in5 m) d)) $$ [Hb Hh]
  · isplitl [Hb] <;> iassumption
  iapply Hk
  iintro ⟨Hb, Hh⟩
  rw [wp_pure]
  imodintro
  isplitl [Hst]; · iexact Hst
  isplitl [Hh]; · iexact Hh
  isplitl [Hb] <;> iassumption

/-- Every array of device `d` is at `endVal m d`. -/
def fq (d : Dev nD) (s' : Phys nD τ sig (Elt F)) : Prop := ∀ b ∈ Pipeline.ucRefs τ sig, s'.mem.mem (d, b) = endVal m d b

theorem hfin (d : Dev nD) (s' : Phys nD τ sig (Elt F)) : iprop(FIN m d ∗ SI s') ⊢ (⌜fq m d s'⌝ : sProp 𝕄) := by
  iintro ⟨Ha, HSI⟩
  ihave Hr := (pointsTo_read_all (Pipeline.ucRefs τ sig) (fun b => ((d, b) : Loc nD τ sig)) (fun b => endVal m d b) s') $$ [Ha HSI]
  · isplitl [Ha]
    · unfold FIN StableHlo.held; iexact Ha
    · iexact HSI
  icases Hr with ⟨%ha, -⟩
  ipureintro; exact ha

/-- The run's end: every array at its value, every semaphore at zero. -/
def QC : PUnit × MemSt nD τ sig (Elt F) → Prop := fun r =>
  (∀ d : Dev nD, ∀ b ∈ Pipeline.ucRefs τ sig, r.2.mem (d, b) = endVal m d b) ∧ r.2.sem = fun _ => 0

/-- Whenever the row numbers at the call are rows of the table, the program runs to its end, with every array at
    `endVal m` and every semaphore at zero. -/
theorem run_main [∀ e, Nonempty (Elt F e)] (hpre : InRows fun d => callIn m d xR) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) scFacts v₀
    (fun q hq => match q with | 0 => nomatch hq)
    (fun q _ => match q with | 0 => tileObl _ _ scFacts hpre)
    (fun q _ => match q with | 0 => SparseCore.Cfg.VecSplit.of_plain (vecSplit _ _))
    m ρ main (fun d => GG d) (FIN m) (u₀ (F := F)) (sep_elim_left.trans (hu₀ m)) (hmain m ρ) (fq m) (hfin m) (QC m) (fun _ h hz => ⟨h, hz⟩)

end Cert.KernelIdeal.Sc

end
-- ==== Proof.Ideal.Rows.lean ====
/-
  What stands in the arrays between the calls: the gathered rows after the SparseCore call, each later call's operands from the
  arguments and the results of the calls before it, the three results at the end, and the arguments, which nothing writes.
-/
module

public import proofs.«01_k».proof.Proof.Ideal.Launch
public import proofs.«01_k».proof.Proof.Spec
public import proofs.«01_k».proof.Proof.Gen.Pre_in_vocab

@[expose] public section

set_option maxRecDepth 16384

noncomputable section

namespace Cert.KernelIdeal.Sc

open Cert.KernelIdeal Cert.KernelIdeal.Gen

open Idealize.ShloMosaic hiding ix0 ix1 ix2 ix3 eq_ix1 eq_ix2 eq_ix3
open Idealize.ShloMosaic.ValueIdx Idealize.ShloMosaic.TcCoe
open Idealize.SL.Sem

variable {F : FTy → Type} [FloatOps F]

/-- The list of quarter-row numbers: entry `4 * r + q` is quarter `q` of the row named by entry `r` of the flat index list. -/
def rowList (x : IVec S8x128 32) : IVec S1x4096 32 :=
  shapeCast S1x4096 (shapeCast S4096 (addi
    (broadcastInDim S1024x4 ![0, 1] bcast_S1024x1_S1024x4_0_1 (muli (broadcastInDim S1024x1 ![0] bcast_S1024_S1024x1_0
      (shapeCast S1024 (transpose S128x8 [1, 0] x transposes_S8x128_S128x8_1_0) shapeCasts_S128x8_S1024))
      (broadcastInDim S1024x1 ![] bcast_S_S1024x1 (constantI S_ 32 4#32))))
    (broadcastInDim S1024x4 ![0, 1] bcast_S1x4_S1024x4_0_1 (broadcastInDim S1x4 ![1] bcast_S4_S1x4_1 (iotaInDim S4 32 0))))
    shapeCasts_S1024x4_S4096) shapeCasts_S4096_S1x4096

theorem rowList_apply (x : IVec S8x128 32) (a : Fin 1) (j : Fin 4096) :
    rowList x (ix2 a j) = x (ix2 ⟨j.val / 4 % 8, by omega⟩ ⟨j.val / 32, by omega⟩) * 4#32 + BitVec.ofNat 32 (j.val % 4) := by
  have ha : a.val = 0 := by omega
  unfold rowList
  rw [shapeCast_apply _ _ (ix2 a j) (ix1 j) (by rw [Shape.rowMajor_val_one, Shape.rowMajor_val_two]; simp [ha]),
    shapeCast_apply _ _ (ix1 j) (ix2 (⟨j.val / 4, by omega⟩ : Fin 1024) (⟨j.val % 4, by omega⟩ : Fin 4))
      (by rw [Shape.rowMajor_val_one, Shape.rowMajor_val_two]; show j.val / 4 * 4 + j.val % 4 = j.val; omega)]
  show IntOp.addi _ _ = _
  rw [broadcastInDim_apply _ _ _ _ (ix2 (⟨j.val / 4, by omega⟩ : Fin 1024) (0 : Fin 1)) (by intro a; match a with | ⟨0, _⟩ => rfl | ⟨1, _⟩ => rfl),
    broadcastInDim_apply _ _ _ _ (ix2 (0 : Fin 1) (⟨j.val % 4, by omega⟩ : Fin 4)) (by intro a; match a with | ⟨0, _⟩ => rfl | ⟨1, _⟩ => rfl),
    broadcastInDim_apply _ _ _ (ix2 (0 : Fin 1) (⟨j.val % 4, by omega⟩ : Fin 4)) (ix1 (⟨j.val % 4, by omega⟩ : Fin 4)) (by intro a; match a with | ⟨0, _⟩ => rfl)]
  show IntOp.muli _ _ + _ = _
  rw [broadcastInDim_apply _ _ _ _ (ix1 (⟨j.val / 4, by omega⟩ : Fin 1024)) (by intro a; match a with | ⟨0, _⟩ => rfl),
    shapeCast_apply _ _ _ (ix2 (⟨j.val / 32, by omega⟩ : Fin 128) (⟨j.val / 4 % 8, by omega⟩ : Fin 8))
      (by rw [Shape.rowMajor_val_one, Shape.rowMajor_val_two]; show j.val / 32 * 8 + j.val / 4 % 8 = j.val / 4; omega),
    transpose_apply _ _ _ _ (ix2 (⟨j.val / 4 % 8, by omega⟩ : Fin 8) (⟨j.val / 32, by omega⟩ : Fin 128)) (by intro b; match b with | ⟨0, _⟩ => rfl | ⟨1, _⟩ => rfl)]
  rfl

theorem rowList_toNat (x : IVec S8x128 32) (hx : Cert.Spec.InVocab x) (a : Fin 1) (j : Fin 4096) :
    (rowList x (ix2 a j)).toNat = (x (ix2 ⟨j.val / 4 % 8, by omega⟩ ⟨j.val / 32, by omega⟩)).toNat * 4 + j.val % 4 := by
  have h := hx (ix2 ⟨j.val / 4 % 8, by omega⟩ ⟨j.val / 32, by omega⟩)
  rw [rowList_apply]
  simp only [BitVec.toNat_add, BitVec.toNat_mul, BitVec.toNat_ofNat]
  omega

theorem rowList_lt (x : IVec S8x128 32) (hx : Cert.Spec.InVocab x) (p : S1x4096.Idx) : (rowList x p).toNat < 128000 := by
  obtain ⟨a, j, rfl⟩ : ∃ (a : Fin 1) (j : Fin 4096), p = ix2 a j := ⟨_, _, eq_ix2 p⟩
  rw [rowList_toNat x hx]
  have h := hx (ix2 ⟨j.val / 4 % 8, by omega⟩ ⟨j.val / 32, by omega⟩)
  omega

/-- The call's result, reshaped to whole rows, is the gathered rows. -/
theorem gath_rows (x : IVec S8x128 32) (hx : Cert.Spec.InVocab x) (emb : S32000x512.Idx → Elt F .f32) :
    shapeCast S1024x512 (gath (F := F) (shapeCast S128000x128 emb shapeCasts_S32000x512_S128000x128) (rowList x)) shapeCasts_S4096x128_S1024x512
      = Cert.Spec.rowsOf x emb := by
  funext p
  obtain ⟨r, c, rfl⟩ : ∃ (r : Fin 1024) (c : Fin 512), p = ix2 r c := ⟨_, _, eq_ix2 p⟩
  rw [shapeCast_apply _ _ _ (ix2 (⟨r.val * 4 + c.val / 128, by omega⟩ : Fin 4096) (⟨c.val % 128, by omega⟩ : Fin 128))
    (by rw [Shape.rowMajor_val_two, Shape.rowMajor_val_two]; show (r.val * 4 + c.val / 128) * 128 + c.val % 128 = r.val * 512 + c.val; omega)]
  unfold gath Cert.Spec.rowsOf
  have hl := rowList_toNat x hx (⟨0, by decide⟩) (⟨r.val * 4 + c.val / 128, by omega⟩ : Fin 4096)
  have hix : (ix2 ⟨(r.val * 4 + c.val / 128) / 4 % 8, by omega⟩ ⟨(r.val * 4 + c.val / 128) / 32, by omega⟩ : S8x128.Idx)
      = ix2 ⟨r.val % 8, by omega⟩ ⟨r.val / 8, by omega⟩ := by
    funext a; match a with
      | ⟨0, _⟩ => exact Fin.ext (by show (r.val * 4 + c.val / 128) / 4 % 8 = r.val % 8; omega)
      | ⟨1, _⟩ => exact Fin.ext (by show (r.val * 4 + c.val / 128) / 32 = r.val / 8; omega)
  simp only [hix] at hl
  have hv := hx (ix2 ⟨r.val % 8, by omega⟩ ⟨r.val / 8, by omega⟩)
  refine shapeCast_apply _ _ _ _ ?_
  rw [Shape.rowMajor_val_two, Shape.rowMajor_val_two]
  show (x (ix2 ⟨r.val % 8, by omega⟩ ⟨r.val / 8, by omega⟩)).toNat % 32000 * 512 + c.val
    = (rowList x (ix2 (⟨0, by decide⟩ : Fin 1) (⟨r.val * 4 + c.val / 128, by omega⟩ : Fin 4096))).toNat % 128000 * 128 + c.val % 128
  rw [hl]
  omega

variable (m : (ℓ : Loc nD τ sig) → Buf (Elt F) ℓ)

theorem callIn_x (d : Dev nD) : callIn m d xR = rowList (m ((d.tc : Thread nD τ).loc main_arg0)) := by
  unfold callIn opsPre
  after_results <;> rfl

theorem callIn_t (d : Dev nD) : callIn m d tR = shapeCast S128000x128 (m ((d.tc : Thread nD τ).loc main_arg1)) shapeCasts_S32000x512_S128000x128 := by
  unfold callIn opsPre
  after_results <;> rfl

/-- The row numbers at the call are rows of the table. -/
theorem inRows (hx : ∀ d : Dev nD, Cert.Spec.InVocab (m ((d.tc : Thread nD τ).loc main_arg0))) : InRows fun d => callIn m d xR := by
  intro d j
  show (callIn m d xR j).toNat < 128000
  rw [callIn_x]
  exact rowList_lt _ (hx d) j

/-! ## What a stretch does not write stays -/

/-- An array that neither the first stretch nor the SparseCore call nor the second stretch writes is as at launch. -/
theorem in1_keep (d : Dev nD) (r : Ref sig .tc)
    (h : r ∉ ([main_v0, main_v1, main_v2, main_v3, main_c, main_v4, main_v5, main_v6, main_v7, main_v8, main_v9, main_v10, main_v11, main_v12] : List (Ref sig .tc)))
    (h' : r ≠ main_v13) (h1 : r ∉ ([main_v14, main_v15, main_v16, main_v17, main_v18, main_v19] : List (Ref sig .tc))) :
    in1 m d r = m ((d.tc : Thread nD τ).loc r) := by
  unfold in1
  rw [StableHlo.after_of_writes_sub ops1 _ (StableHlo.forall_writes_sub_of_map rfl) h1, callVal_of_ne _ (fun e => h' (Proc.devRef_injective _ e))]
  unfold callIn
  rw [StableHlo.after_of_writes_sub opsPre _ (StableHlo.forall_writes_sub_of_map rfl) h]
  rfl
/-- From the first `in_gates` to the first recurrence. -/
theorem in2_keep (d : Dev nD) (r : Ref sig .tc) (h : r ∉ ([main_v21, main_v22, main_v23] : List (Ref sig .tc))) (h' : r ≠ main_v20) :
    in2 m d r = in1 m d r := by
  unfold in2
  rw [StableHlo.after_of_writes_sub ops2 _ (StableHlo.forall_writes_sub_of_map rfl) h]
  exact Function.update_of_ne (fun e => h' (Proc.devRef_injective _ e)) ..
/-- From the first recurrence to the second `in_gates`. -/
theorem in3_keep (d : Dev nD) (r : Ref sig .tc) (h : r ∉ ([main_v25, main_v26, main_v27, main_v28, main_v29, main_v30] : List (Ref sig .tc)))
    (h0 : r ≠ main_v24_0) (h1 : r ≠ main_v24_1) (h2 : r ≠ main_v24_2) : in3 m d r = in2 m d r := by
  unfold in3
  rw [StableHlo.after_of_writes_sub ops3 _ (StableHlo.forall_writes_sub_of_map rfl) h, val2_ne _ _ _ h0 h1 h2]
/-- From the second `in_gates` to the second recurrence. -/
theorem in4_keep (d : Dev nD) (r : Ref sig .tc) (h : r ∉ ([main_v32, main_v33, main_v34] : List (Ref sig .tc))) (h' : r ≠ main_v31) :
    in4 m d r = in3 m d r := by
  unfold in4
  rw [StableHlo.after_of_writes_sub ops4 _ (StableHlo.forall_writes_sub_of_map rfl) h]
  exact Function.update_of_ne (fun e => h' (Proc.devRef_injective _ e)) ..
/-- From the second recurrence to `fc`. -/
theorem in5_keep (d : Dev nD) (r : Ref sig .tc) (h : r ∉ ([main_v36, main_v37, main_v38, main_v39, main_v40, main_v41] : List (Ref sig .tc)))
    (h0 : r ≠ main_v35_0) (h1 : r ≠ main_v35_1) (h2 : r ≠ main_v35_2) : in5 m d r = in4 m d r := by
  unfold in5
  rw [StableHlo.after_of_writes_sub ops5 _ (StableHlo.forall_writes_sub_of_map rfl) h, val4_ne _ _ _ h0 h1 h2]
/-- From `fc` to the end. -/
theorem end_keep (d : Dev nD) (r : Ref sig .tc) (h : r ∉ ([main_v43, main_v44, main_v45, main_v46, main_v47, main_v48, main_v49] : List (Ref sig .tc)))
    (h' : r ≠ main_v42) : endVal m d r = in5 m d r := by
  unfold endVal
  rw [StableHlo.after_of_writes_sub opsPost _ (StableHlo.forall_writes_sub_of_map rfl) h]
  exact Function.update_of_ne (fun e => h' (Proc.devRef_injective _ e)) ..

/-- The program's arguments. -/
abbrev args : List (Ref sig .tc) :=
  [main_arg0, main_arg1, main_arg2, main_arg3, main_arg4, main_arg5, main_arg6, main_arg7, main_arg8, main_arg9, main_arg10, main_arg11]

/-- An argument is as at launch at every call and at the end. -/
theorem in1_arg (d : Dev nD) (r : Ref sig .tc) (h : r ∈ args) : in1 m d r = m ((d.tc : Thread nD τ).loc r) := by
  have e := (by decide +kernel : ∀ r ∈ args, r ∉ ([main_v0, main_v1, main_v2, main_v3, main_c, main_v4, main_v5, main_v6, main_v7, main_v8, main_v9, main_v10, main_v11, main_v12] : List (Ref sig .tc))
    ∧ r ≠ main_v13 ∧ r ∉ ([main_v14, main_v15, main_v16, main_v17, main_v18, main_v19] : List (Ref sig .tc))) r h
  exact in1_keep m d r e.1 e.2.1 e.2.2
theorem in2_arg (d : Dev nD) (r : Ref sig .tc) (h : r ∈ args) : in2 m d r = m ((d.tc : Thread nD τ).loc r) := by
  have e := (by decide +kernel : ∀ r ∈ args, r ∉ ([main_v21, main_v22, main_v23] : List (Ref sig .tc)) ∧ r ≠ main_v20) r h
  exact (in2_keep m d r e.1 e.2).trans (in1_arg m d r h)
theorem in3_arg (d : Dev nD) (r : Ref sig .tc) (h : r ∈ args) : in3 m d r = m ((d.tc : Thread nD τ).loc r) := by
  have e := (by decide +kernel : ∀ r ∈ args, r ∉ ([main_v25, main_v26, main_v27, main_v28, main_v29, main_v30] : List (Ref sig .tc))
    ∧ r ≠ main_v24_0 ∧ r ≠ main_v24_1 ∧ r ≠ main_v24_2) r h
  exact (in3_keep m d r e.1 e.2.1 e.2.2.1 e.2.2.2).trans (in2_arg m d r h)
theorem in4_arg (d : Dev nD) (r : Ref sig .tc) (h : r ∈ args) : in4 m d r = m ((d.tc : Thread nD τ).loc r) := by
  have e := (by decide +kernel : ∀ r ∈ args, r ∉ ([main_v32, main_v33, main_v34] : List (Ref sig .tc)) ∧ r ≠ main_v31) r h
  exact (in4_keep m d r e.1 e.2).trans (in3_arg m d r h)
theorem in5_arg (d : Dev nD) (r : Ref sig .tc) (h : r ∈ args) : in5 m d r = m ((d.tc : Thread nD τ).loc r) := by
  have e := (by decide +kernel : ∀ r ∈ args, r ∉ ([main_v36, main_v37, main_v38, main_v39, main_v40, main_v41] : List (Ref sig .tc))
    ∧ r ≠ main_v35_0 ∧ r ≠ main_v35_1 ∧ r ≠ main_v35_2) r h
  exact (in5_keep m d r e.1 e.2.1 e.2.2.1 e.2.2.2).trans (in4_arg m d r h)
theorem end_arg (d : Dev nD) (r : Ref sig .tc) (h : r ∈ args) : endVal m d r = m ((d.tc : Thread nD τ).loc r) := by
  have e := (by decide +kernel : ∀ r ∈ args, r ∉ ([main_v43, main_v44, main_v45, main_v46, main_v47, main_v48, main_v49] : List (Ref sig .tc))
    ∧ r ≠ main_v42) r h
  exact (end_keep m d r e.1 e.2).trans (in5_arg m d r h)

/-! ## The calls' operands -/

/-- The first `in_gates` multiplies the gathered rows, -/
theorem in1_x (hx : ∀ d : Dev nD, Cert.Spec.InVocab (m ((d.tc : Thread nD τ).loc main_arg0))) (d : Dev nD) :
    in1 m d main_v15 = truncf .bf16 (Cert.Spec.rowsOf (m ((d.tc : Thread nD τ).loc main_arg0)) (m ((d.tc : Thread nD τ).loc main_arg1))) bitsLt_bf16_f32 := by
  rw [← gath_rows (F := F) _ (hx d), ← callIn_x, ← callIn_t, ← callVal_o]
  unfold in1 ops1
  after_results <;> rfl
/-- by the transposed input weights, -/
theorem in1_w (d : Dev nD) : in1 m d main_v17
    = transpose S512x4096 [1, 0] (truncf .bf16 (m ((d.tc : Thread nD τ).loc main_arg2) : FVec F S4096x512 .f32) bitsLt_bf16_f32) transposes_S4096x512_S512x4096_1_0 := by
  unfold in1 ops1
  after_results
  rw [callVal_of_ne _ (by decide)]
  unfold callIn opsPre
  after_results <;> rfl
/-- and adds both biases. -/
theorem in1_b (d : Dev nD) : in1 m d main_v19
    = shapeCast S1x4096 (addf (m ((d.tc : Thread nD τ).loc main_arg4) : FVec F S4096 .f32) (m ((d.tc : Thread nD τ).loc main_arg5))) shapeCasts_S4096_S1x4096 := by
  unfold in1 ops1
  after_results
  rw [callVal_of_ne _ (by decide), callVal_of_ne _ (by decide)]
  unfold callIn opsPre
  after_results <;> rfl

/-- The first recurrence reads the first `in_gates`' result, step by step, -/
theorem in2_x (d : Dev nD) : in2 m d main_v21 = shapeCast S128x8x4096 (val1 (in1 m) d main_v20 : FVec F S1024x4096 .f32) shapeCasts_S1024x4096_S128x8x4096 := by
  unfold in2 ops2
  after_results <;> rfl
/-- and the transposed recurrent weights. -/
theorem in2_w (d : Dev nD) : in2 m d main_v23
    = transpose S1024x4096 [1, 0] (truncf .bf16 (m ((d.tc : Thread nD τ).loc main_arg3) : FVec F S4096x1024 .f32) bitsLt_bf16_f32) transposes_S4096x1024_S1024x4096_1_0 := by
  rw [← in1_arg m d main_arg3 (by decide)]
  unfold in2 ops2
  after_results
  rw [show val1 (in1 m) d (Proc.devRef .tc main_arg3) = in1 m d main_arg3 from Function.update_of_ne (by decide) ..]

/-- The second `in_gates` multiplies the first layer's outputs, -/
theorem in3_x (d : Dev nD) : in3 m d main_v26
    = truncf .bf16 (shapeCast S1024x1024 (val2 (in2 m) d main_v24_0 : FVec F S128x8x1024 .f32) shapeCasts_S128x8x1024_S1024x1024) bitsLt_bf16_f32 := by
  unfold in3 ops3
  after_results <;> rfl
theorem in3_w (d : Dev nD) : in3 m d main_v28
    = transpose S1024x4096 [1, 0] (truncf .bf16 (m ((d.tc : Thread nD τ).loc main_arg6) : FVec F S4096x1024 .f32) bitsLt_bf16_f32) transposes_S4096x1024_S1024x4096_1_0 := by
  rw [← in2_arg m d main_arg6 (by decide)]
  unfold in3 ops3
  after_results
  rw [val2_ne _ _ main_arg6 (by decide) (by decide) (by decide)]
theorem in3_b (d : Dev nD) : in3 m d main_v30
    = shapeCast S1x4096 (addf (m ((d.tc : Thread nD τ).loc main_arg8) : FVec F S4096 .f32) (m ((d.tc : Thread nD τ).loc main_arg9))) shapeCasts_S4096_S1x4096 := by
  rw [← in2_arg m d main_arg8 (by decide), ← in2_arg m d main_arg9 (by decide)]
  unfold in3 ops3
  after_results
  rw [val2_ne _ _ main_arg8 (by decide) (by decide) (by decide), val2_ne _ _ main_arg9 (by decide) (by decide) (by decide)]
  rfl

/-- The second recurrence reads the second `in_gates`' result, step by step, -/
theorem in4_x (d : Dev nD) : in4 m d main_v32 = shapeCast S128x8x4096 (val3 (in3 m) d main_v31 : FVec F S1024x4096 .f32) shapeCasts_S1024x4096_S128x8x4096 := by
  unfold in4 ops4
  after_results <;> rfl
theorem in4_w (d : Dev nD) : in4 m d main_v34
    = transpose S1024x4096 [1, 0] (truncf .bf16 (m ((d.tc : Thread nD τ).loc main_arg7) : FVec F S4096x1024 .f32) bitsLt_bf16_f32) transposes_S4096x1024_S1024x4096_1_0 := by
  rw [← in3_arg m d main_arg7 (by decide)]
  unfold in4 ops4
  after_results
  rw [show val3 (in3 m) d (Proc.devRef .tc main_arg7) = in3 m d main_arg7 from Function.update_of_ne (by decide) ..]

/-- `fc` multiplies the second layer's outputs, sequence by sequence, -/
theorem in5_x (d : Dev nD) : in5 m d main_v38
    = truncf .bf16 (shapeCast S1024x1024 (transpose S8x128x1024 [1, 0, 2] (val4 (in4 m) d main_v35_0 : FVec F S128x8x1024 .f32)
        transposes_S128x8x1024_S8x128x1024_1_0_2) shapeCasts_S8x128x1024_S1024x1024) bitsLt_bf16_f32 := by
  unfold in5 ops5
  after_results <;> rfl
theorem in5_w (d : Dev nD) : in5 m d main_v40
    = transpose S1024x32000 [1, 0] (truncf .bf16 (m ((d.tc : Thread nD τ).loc main_arg10) : FVec F S32000x1024 .f32) bitsLt_bf16_f32) transposes_S32000x1024_S1024x32000_1_0 := by
  rw [← in4_arg m d main_arg10 (by decide)]
  unfold in5 ops5
  after_results
  rw [val4_ne _ _ main_arg10 (by decide) (by decide) (by decide)]
theorem in5_b (d : Dev nD) : in5 m d main_v41 = shapeCast S1x32000 (m ((d.tc : Thread nD τ).loc main_arg11) : FVec F S32000 .f32) shapeCasts_S32000_S1x32000 := by
  rw [← in4_arg m d main_arg11 (by decide)]
  unfold in5 ops5
  after_results
  rw [val4_ne _ _ main_arg11 (by decide) (by decide) (by decide)]
  rfl

/-! ## The results -/

/-- The logits are `fc`'s result, by sequence and step, -/
theorem end_logits (d : Dev nD) : endVal m d main_v43 = shapeCast S8x128x32000 (val5 (in5 m) d main_v42 : FVec F S1024x32000 .f32) shapeCasts_S1024x32000_S8x128x32000 := by
  unfold endVal opsPost
  after_results <;> rfl
/-- the final outputs are the two recurrences', -/
theorem end_h (d : Dev nD) : endVal m d main_v46 = concatenate S2x8x1024 0
    [⟨S1x8x1024, broadcastInDim S1x8x1024 ![1, 2] bcast_S8x1024_S1x8x1024_1_2 (lastH2 (in2 m d main_v21) (in2 m d main_v23) : FVec F S8x1024 .f32)⟩,
      ⟨S1x8x1024, broadcastInDim S1x8x1024 ![1, 2] bcast_S8x1024_S1x8x1024_1_2 (lastH4 (in4 m d main_v32) (in4 m d main_v34) : FVec F S8x1024 .f32)⟩]
    concatenates_S1x8x1024_S1x8x1024_S2x8x1024_d0 := by
  rw [← val2_1, ← val4_1]
  have e : in5 m d main_v24_1 = val2 (in2 m) d main_v24_1 := by
    rw [in5_keep m d _ (by decide) (by decide) (by decide) (by decide), in4_keep m d _ (by decide) (by decide)]
    unfold in3
    exact StableHlo.after_of_writes_sub ops3 _ (W := [main_v25, main_v26, main_v27, main_v28, main_v29, main_v30]) (StableHlo.forall_writes_sub_of_map rfl) (by decide)
  have e' : in5 m d main_v35_1 = val4 (in4 m) d main_v35_1 :=
    StableHlo.after_of_writes_sub ops5 _ (W := [main_v36, main_v37, main_v38, main_v39, main_v40, main_v41]) (StableHlo.forall_writes_sub_of_map rfl) (by decide)
  rw [← e, ← e']
  unfold endVal opsPost
  after_results
  rw [show val5 (in5 m) d (Proc.devRef .tc main_v24_1) = in5 m d main_v24_1 from Function.update_of_ne (by decide) ..,
    show val5 (in5 m) d (Proc.devRef .tc main_v35_1) = in5 m d main_v35_1 from Function.update_of_ne (by decide) ..]
/-- and so are the final cell states. -/
theorem end_c (d : Dev nD) : endVal m d main_v49 = concatenate S2x8x1024 0
    [⟨S1x8x1024, broadcastInDim S1x8x1024 ![1, 2] bcast_S8x1024_S1x8x1024_1_2 (lastC2 (in2 m d main_v21) (in2 m d main_v23) : FVec F S8x1024 .f32)⟩,
      ⟨S1x8x1024, broadcastInDim S1x8x1024 ![1, 2] bcast_S8x1024_S1x8x1024_1_2 (lastC4 (in4 m d main_v32) (in4 m d main_v34) : FVec F S8x1024 .f32)⟩]
    concatenates_S1x8x1024_S1x8x1024_S2x8x1024_d0 := by
  rw [← val2_2, ← val4_2]
  have e : in5 m d main_v24_2 = val2 (in2 m) d main_v24_2 := by
    rw [in5_keep m d _ (by decide) (by decide) (by decide) (by decide), in4_keep m d _ (by decide) (by decide)]
    unfold in3
    exact StableHlo.after_of_writes_sub ops3 _ (W := [main_v25, main_v26, main_v27, main_v28, main_v29, main_v30]) (StableHlo.forall_writes_sub_of_map rfl) (by decide)
  have e' : in5 m d main_v35_2 = val4 (in4 m) d main_v35_2 :=
    StableHlo.after_of_writes_sub ops5 _ (W := [main_v36, main_v37, main_v38, main_v39, main_v40, main_v41]) (StableHlo.forall_writes_sub_of_map rfl) (by decide)
  rw [← e, ← e']
  unfold endVal opsPost
  after_results
  rw [show val5 (in5 m) d (Proc.devRef .tc main_v24_2) = in5 m d main_v24_2 from Function.update_of_ne (by decide) ..,
    show val5 (in5 m) d (Proc.devRef .tc main_v35_2) = in5 m d main_v35_2 from Function.update_of_ne (by decide) ..]

/-- Whenever every index names a row of the table, the program runs to its end; then the three results stand at `endVal m`,
    the arguments are unchanged and every semaphore is at zero. -/
theorem run_rows [∀ e, Nonempty (Elt F e)] (ρ : Dev nD → PrngReg) (hx : ∀ d : Dev nD, Cert.Spec.InVocab (m ((d.tc : Thread nD τ).loc main_arg0))) :
    θ_run (Cert.KernelIdeal.defs (F := F)) (Cert.KernelIdeal.threads (F := F)) ⟨m, fun _ => 0, ρ⟩ (fun r => (∀ c : Dev nD,
      (r.2.mem ((c.tc : Thread nD τ).loc main_v43) = endVal m c main_v43 ∧ r.2.mem ((c.tc : Thread nD τ).loc main_v46) = endVal m c main_v46
        ∧ r.2.mem ((c.tc : Thread nD τ).loc main_v49) = endVal m c main_v49)
      ∧ ∀ a ∈ args, r.2.mem ((c.tc : Thread nD τ).loc a) = m ((c.tc : Thread nD τ).loc a))
      ∧ r.2.sem = fun _ => 0) :=
  (θ_run Cert.KernelIdeal.defs _ _).mono (fun _ h => ⟨fun c =>
    ⟨⟨h.1 c ((Proc.tc : Proc τ).devRef main_v43) (by decide), h.1 c ((Proc.tc : Proc τ).devRef main_v46) (by decide),
        h.1 c ((Proc.tc : Proc τ).devRef main_v49) (by decide)⟩,
      fun a ha => (h.1 c ((Proc.tc : Proc τ).devRef a) ((by decide +kernel : ∀ a ∈ args, (Proc.tc : Proc τ).devRef a ∈ Pipeline.ucRefs τ sig) a ha)).trans
        (end_arg m c a ha)⟩, h.2⟩) (run_main m ρ (inRows m hx))

end Cert.KernelIdeal.Sc

end
-- ==== Proof.Layers.lean ====
/-
  The program's mathematics over the reals, as functions of array elements, used by the kernel's side and by the reference's: the
  two LSTM layers step by step, and the output layer.
-/
module

public import proofs.«01_k».proof.Proof.Spec
public import Idealize.ShloMosaic.Lib.Pointwise

@[expose] public section

noncomputable section

namespace Cert.Spec

open Idealize.ShloMosaic

/-! ## The layers, over the reals -/

/-- Matrices and vectors of extended reals. -/
abbrev Mat (n m : Nat) : Type := (⟨2, ![n, m]⟩ : Shape).Idx → EReal
abbrev Lin (n : Nat) : Type := (⟨1, ![n]⟩ : Shape).Idx → EReal

/-- The four gates before their nonlinearities, one after another along the columns. -/
def gates {K : Nat} (Wi : Mat 4096 K) (Wh : Mat 4096 1024) (bi bh : Lin 4096) (x : Mat 8 K) (h : Mat 8 1024) : Mat 8 4096 :=
  fun p => (((∑ k : Fin K, x (ix2 (p 0) k) * Wi (ix2 (p 1) k)) + bi (ix1 (p 1))) + ∑ k : Fin 1024, h (ix2 (p 0) k) * Wh (ix2 (p 1) k)) + bh (ix1 (p 1))

/-- The new cell state: the forget gate times the old one plus the input gate times the candidate. -/
def cellC (g : Mat 8 4096) (c : Mat 8 1024) : Mat 8 1024 := fun p =>
  Ideal.logistic (g (ix2 (p 0) ⟨1024 + (p 1).val, by have : (p 1).val < 1024 := (p 1).isLt; omega⟩)) * c p
    + Ideal.logistic (g (ix2 (p 0) ⟨(p 1).val, by have : (p 1).val < 1024 := (p 1).isLt; omega⟩)) * Ideal.tanh (g (ix2 (p 0) ⟨2048 + (p 1).val, by have : (p 1).val < 1024 := (p 1).isLt; omega⟩))
/-- The new output: the output gate times the squashed new cell state. -/
def cellH (g : Mat 8 4096) (c : Mat 8 1024) : Mat 8 1024 := fun p =>
  Ideal.logistic (g (ix2 (p 0) ⟨3072 + (p 1).val, by have : (p 1).val < 1024 := (p 1).isLt; omega⟩)) * Ideal.tanh (cellC g c p)

/-- A layer's output and cell state after `n` steps from zero. -/
def layer {K : Nat} (Wi : Mat 4096 K) (Wh : Mat 4096 1024) (bi bh : Lin 4096) (x : ℕ → Mat 8 K) : ℕ → Mat 8 1024 × Mat 8 1024
  | 0 => (fun _ => 0, fun _ => 0)
  | n + 1 => (cellH (gates Wi Wh bi bh (x n) (layer Wi Wh bi bh x n).1) (layer Wi Wh bi bh x n).2,
      cellC (gates Wi Wh bi bh (x n) (layer Wi Wh bi bh x n).1) (layer Wi Wh bi bh x n).2)

/-- Two runs of a layer over inputs that agree up to a step agree up to it. -/
theorem layer_congr {K : Nat} (Wi : Mat 4096 K) (Wh : Mat 4096 1024) (bi bh : Lin 4096) (x y : ℕ → Mat 8 K) :
    ∀ n, (∀ k < n, x k = y k) → layer Wi Wh bi bh x n = layer Wi Wh bi bh y n
  | 0, _ => rfl
  | n + 1, h => by
    unfold layer
    rw [layer_congr Wi Wh bi bh x y n fun k hk => h k (by omega), h n (by omega)]

/-- Step `n`'s inputs of the first layer: the gathered rows of that step. -/
def inputs (x : (⟨2, ![8, 128]⟩ : Shape).Idx → BitVec 32) (emb : Mat 32000 512) (n : ℕ) : Mat 8 512 :=
  fun p => rowsOf x emb (ix2 ⟨(n % 128) * 8 + (p 0).val, by have : (p 0).val < 8 := (p 0).isLt; omega⟩ (p 1))

/-- The logits of step `t` of sequence `b`, from the second layer's outputs. -/
def logits (W : Mat 32000 1024) (B : Lin 32000) (h : ℕ → Mat 8 1024) : (⟨3, ![8, 128, 32000]⟩ : Shape).Idx → EReal :=
  fun i => (∑ k : Fin 1024, h ((i 1).val + 1) (ix2 (i 0) k) * W (ix2 (i 2) k)) + B (ix1 (i 2))

end Cert.Spec

end
-- ==== Proof.Cells.lean ====
/-
  One step of the kernel's recurrence over the reals: what a grid point computes from its block of gates, the state and the
  weights is the cell's mathematics.
-/
module

public import proofs.«01_k».proof.Proof.Layers
public import proofs.«01_k».proof.Proof.Gen.KernelIdeal.Skeleton

@[expose] public section

set_option maxRecDepth 16384

noncomputable section

namespace Cert.KernelIdeal.Sc

open Cert.KernelIdeal Cert.KernelIdeal.Gen

open Idealize.ShloMosaic

/-- The gates a grid point sees: its block plus the state times the weights. -/
def gatesK (x : FVec Ideal S1x8x4096 .f32) (h : FVec Ideal S8x1024 .f32) (w : FVec Ideal S1024x4096 .bf16) : Cert.Spec.Mat 8 4096 :=
  fun q => x (ix3 0 (q 0) (q 1)) + ∑ k : Fin 1024, h (ix2 (q 0) k) * w (ix2 k (q 1))

/-! ## The first recurrence -/

/-- The gates, -/
theorem k2_gates (x : FVec Ideal S1x8x4096 .f32) (h : FVec Ideal S8x1024 .f32) (w : FVec Ideal S1024x4096 .bf16) :
    k2_pay3 (F := Ideal) x h w = gatesK x h w := by
  funext q
  pointwise [k2_pay3, gatesK]
/-- the new cell state, -/
theorem k2_cell (x : FVec Ideal S1x8x4096 .f32) (h : FVec Ideal S8x1024 .f32) (w : FVec Ideal S1024x4096 .bf16) (c : FVec Ideal S8x1024 .f32) :
    k2_pay4 (F := Ideal) x h w c = Cert.Spec.cellC (gatesK x h w) c := by
  funext q
  unfold k2_pay4
  rw [k2_gates]
  generalize gatesK x h w = g
  pointwise [Cert.Spec.cellC]
/-- and the new output. -/
theorem k2_out (x : FVec Ideal S1x8x4096 .f32) (h : FVec Ideal S8x1024 .f32) (w : FVec Ideal S1024x4096 .bf16) (c : FVec Ideal S8x1024 .f32) :
    k2_pay5 (F := Ideal) x h w c = Cert.Spec.cellH (gatesK x h w) c := by
  funext q
  unfold k2_pay5
  rw [k2_gates, k2_cell]
  generalize gatesK x h w = g
  generalize he : Cert.Spec.cellC g c = e
  pointwise [Cert.Spec.cellH]
  rw [he]
/-- The state carried to the next step is the new output and the new cell state. -/
theorem k2_cell' (x : FVec Ideal S1x8x4096 .f32) (h : FVec Ideal S8x1024 .f32) (w : FVec Ideal S1024x4096 .bf16) (c : FVec Ideal S8x1024 .f32) :
    k2_pay6 (F := Ideal) x h w c = Cert.Spec.cellC (gatesK x h w) c := by
  rw [← k2_cell]; exact shapeCast_self _ _
theorem k2_out' (x : FVec Ideal S1x8x4096 .f32) (h : FVec Ideal S8x1024 .f32) (w : FVec Ideal S1024x4096 .bf16) (c : FVec Ideal S8x1024 .f32) :
    k2_pay7 (F := Ideal) x h w c = Cert.Spec.cellH (gatesK x h w) c := by
  rw [← k2_out]; exact shapeCast_self _ _
/-- The written step is the new output. -/
theorem k2_step (x : FVec Ideal S1x8x4096 .f32) (h : FVec Ideal S8x1024 .f32) (w : FVec Ideal S1024x4096 .bf16) (c : FVec Ideal S8x1024 .f32) (b : Fin 8) (j : Fin 1024) :
    k2_pay8 (F := Ideal) x h w c (ix3 0 b j) = Cert.Spec.cellH (gatesK x h w) c (ix2 b j) := by
  rw [← k2_out]
  unfold k2_pay8
  generalize k2_pay5 (F := Ideal) x h w c = e
  pointwise
/-- Both states start at zero. -/
theorem k2_zeroH : k2_pay1 (F := Ideal) = fun _ => 0 := by
  funext q
  pointwise [k2_pay1]
theorem k2_zeroC : k2_pay2 (F := Ideal) = fun _ => 0 := by
  funext q
  pointwise [k2_pay2]

/-! ## The second recurrence -/

/-- The gates, -/
theorem k4_gates (x : FVec Ideal S1x8x4096 .f32) (h : FVec Ideal S8x1024 .f32) (w : FVec Ideal S1024x4096 .bf16) :
    k4_pay3 (F := Ideal) x h w = gatesK x h w := by
  funext q
  pointwise [k4_pay3, gatesK]
/-- the new cell state, -/
theorem k4_cell (x : FVec Ideal S1x8x4096 .f32) (h : FVec Ideal S8x1024 .f32) (w : FVec Ideal S1024x4096 .bf16) (c : FVec Ideal S8x1024 .f32) :
    k4_pay4 (F := Ideal) x h w c = Cert.Spec.cellC (gatesK x h w) c := by
  funext q
  unfold k4_pay4
  rw [k4_gates]
  generalize gatesK x h w = g
  pointwise [Cert.Spec.cellC]
/-- and the new output. -/
theorem k4_out (x : FVec Ideal S1x8x4096 .f32) (h : FVec Ideal S8x1024 .f32) (w : FVec Ideal S1024x4096 .bf16) (c : FVec Ideal S8x1024 .f32) :
    k4_pay5 (F := Ideal) x h w c = Cert.Spec.cellH (gatesK x h w) c := by
  funext q
  unfold k4_pay5
  rw [k4_gates, k4_cell]
  generalize gatesK x h w = g
  generalize he : Cert.Spec.cellC g c = e
  pointwise [Cert.Spec.cellH]
  rw [he]
/-- The state carried to the next step is the new output and the new cell state. -/
theorem k4_cell' (x : FVec Ideal S1x8x4096 .f32) (h : FVec Ideal S8x1024 .f32) (w : FVec Ideal S1024x4096 .bf16) (c : FVec Ideal S8x1024 .f32) :
    k4_pay6 (F := Ideal) x h w c = Cert.Spec.cellC (gatesK x h w) c := by
  rw [← k4_cell]; exact shapeCast_self _ _
theorem k4_out' (x : FVec Ideal S1x8x4096 .f32) (h : FVec Ideal S8x1024 .f32) (w : FVec Ideal S1024x4096 .bf16) (c : FVec Ideal S8x1024 .f32) :
    k4_pay7 (F := Ideal) x h w c = Cert.Spec.cellH (gatesK x h w) c := by
  rw [← k4_out]; exact shapeCast_self _ _
/-- The written step is the new output. -/
theorem k4_step (x : FVec Ideal S1x8x4096 .f32) (h : FVec Ideal S8x1024 .f32) (w : FVec Ideal S1024x4096 .bf16) (c : FVec Ideal S8x1024 .f32) (b : Fin 8) (j : Fin 1024) :
    k4_pay8 (F := Ideal) x h w c (ix3 0 b j) = Cert.Spec.cellH (gatesK x h w) c (ix2 b j) := by
  rw [← k4_out]
  unfold k4_pay8
  generalize k4_pay5 (F := Ideal) x h w c = e
  pointwise
/-- Both states start at zero. -/
theorem k4_zeroH : k4_pay1 (F := Ideal) = fun _ => 0 := by
  funext q
  pointwise [k4_pay1]
theorem k4_zeroC : k4_pay2 (F := Ideal) = fun _ => 0 := by
  funext q
  pointwise [k4_pay2]

/-! ## The calls outside the recurrences -/

/-- The first `in_gates` at an element: the row times the column, plus the bias. -/
theorem k1_apply (X : FVec Ideal S1024x512 .bf16) (W : FVec Ideal S512x4096 .bf16) (B : FVec Ideal S1x4096 .f32) (r : Fin 1024) (j : Fin 4096) :
    k1_pay1 (F := Ideal) X W B (ix2 r j) = (∑ k : Fin 512, X (ix2 r k) * W (ix2 k j)) + B (ix2 0 j) := by
  pointwise [k1_pay1]
/-- The second `in_gates`, -/
theorem k3_apply (X : FVec Ideal S1024x1024 .bf16) (W : FVec Ideal S1024x4096 .bf16) (B : FVec Ideal S1x4096 .f32) (r : Fin 1024) (j : Fin 4096) :
    k3_pay1 (F := Ideal) X W B (ix2 r j) = (∑ k : Fin 1024, X (ix2 r k) * W (ix2 k j)) + B (ix2 0 j) := by
  pointwise [k3_pay1]
/-- and one column block of `fc`. -/
theorem k5_apply (X : FVec Ideal S1024x1024 .bf16) (W : FVec Ideal S1024x3200 .bf16) (B : FVec Ideal S1x3200 .f32) (r : Fin 1024) (j : Fin 3200) :
    k5_pay1 (F := Ideal) X W B (ix2 r j) = (∑ k : Fin 1024, X (ix2 r k) * W (ix2 k j)) + B (ix2 0 j) := by
  pointwise [k5_pay1]

end Cert.KernelIdeal.Sc

end
-- ==== Proof.Values.lean ====
/-
  The kernel's three results over the reals: the logits, the final outputs and the final cell states of the two layers.
-/
module

public import proofs.«01_k».proof.Proof.Ideal.Rows
public import proofs.«01_k».proof.Proof.Cells

@[expose] public section

set_option maxRecDepth 16384

noncomputable section

namespace Cert.KernelIdeal.Sc

open Cert.KernelIdeal Cert.KernelIdeal.Gen

open Idealize.ShloMosaic Idealize.ShloMosaic.TcCoe
open Idealize.SL.Sem

variable (m : (ℓ : Loc nD τ sig) → Buf (Elt Ideal) ℓ)

/-- The arguments: the tokens, the table, each layer's weights and biases, and the output layer's. -/
abbrev tok (d : Dev nD) : IVec S8x128 32 := m ((d.tc : Thread nD τ).loc main_arg0)
abbrev emb (d : Dev nD) : Cert.Spec.Mat 32000 512 := m ((d.tc : Thread nD τ).loc main_arg1)
abbrev wi0 (d : Dev nD) : Cert.Spec.Mat 4096 512 := m ((d.tc : Thread nD τ).loc main_arg2)
abbrev wh0 (d : Dev nD) : Cert.Spec.Mat 4096 1024 := m ((d.tc : Thread nD τ).loc main_arg3)
abbrev bi0 (d : Dev nD) : Cert.Spec.Lin 4096 := m ((d.tc : Thread nD τ).loc main_arg4)
abbrev bh0 (d : Dev nD) : Cert.Spec.Lin 4096 := m ((d.tc : Thread nD τ).loc main_arg5)
abbrev wi1 (d : Dev nD) : Cert.Spec.Mat 4096 1024 := m ((d.tc : Thread nD τ).loc main_arg6)
abbrev wh1 (d : Dev nD) : Cert.Spec.Mat 4096 1024 := m ((d.tc : Thread nD τ).loc main_arg7)
abbrev bi1 (d : Dev nD) : Cert.Spec.Lin 4096 := m ((d.tc : Thread nD τ).loc main_arg8)
abbrev bh1 (d : Dev nD) : Cert.Spec.Lin 4096 := m ((d.tc : Thread nD τ).loc main_arg9)
abbrev wo (d : Dev nD) : Cert.Spec.Mat 32000 1024 := m ((d.tc : Thread nD τ).loc main_arg10)
abbrev bo (d : Dev nD) : Cert.Spec.Lin 32000 := m ((d.tc : Thread nD τ).loc main_arg11)

/-- The first layer's output and cell state after `n` steps, from the arguments. -/
def layer0 (d : Dev nD) : ℕ → Cert.Spec.Mat 8 1024 × Cert.Spec.Mat 8 1024 :=
  Cert.Spec.layer (wi0 m d) (wh0 m d) (bi0 m d) (bh0 m d) (Cert.Spec.inputs (tok m d) (emb m d))
/-- The second layer's: its input at a step is the first layer's output of that step. -/
def layer1 (d : Dev nD) : ℕ → Cert.Spec.Mat 8 1024 × Cert.Spec.Mat 8 1024 :=
  Cert.Spec.layer (wi1 m d) (wh1 m d) (bi1 m d) (bh1 m d) (fun n => (layer0 m d (n + 1)).1)

/-- A grid point's gates are the layer's, when its block is the input's part of them and the weights are the transposed ones:
    the two biases may be added together first. -/
theorem gatesK_eq {K : Nat} (Wi : Cert.Spec.Mat 4096 K) (Wh : Cert.Spec.Mat 4096 1024) (bi bh : Cert.Spec.Lin 4096) (x : Cert.Spec.Mat 8 K) (h : Cert.Spec.Mat 8 1024)
    (X : FVec Ideal S1x8x4096 .f32) (w : FVec Ideal S1024x4096 .bf16)
    (hX : ∀ b j, X (ix3 0 b j) = (∑ k : Fin K, x (ix2 b k) * Wi (ix2 j k)) + (bi (ix1 j) + bh (ix1 j)))
    (hw : ∀ k j, w (ix2 k j) = Wh (ix2 j k)) : gatesK X h w = Cert.Spec.gates Wi Wh bi bh x h := by
  have key : ∀ s u v t : EReal, s + (u + v) + t = s + u + t + v := fun s u v t => by rw [← add_assoc, add_right_comm]
  funext q
  have e : ∀ k : Fin 1024, h (ix2 (q 0) k) * w (ix2 k (q 1)) = h (ix2 (q 0) k) * Wh (ix2 (q 1) k) :=
    fun k => congrArg (fun z : EReal => h (ix2 (q 0) k) * z) (hw k (q 1))
  exact (congrArg₂ (fun s t : EReal => s + t) (hX (q 0) (q 1)) (Finset.sum_congr rfl fun k _ => e k)).trans (key _ _ _ _)

/-- The first recurrence's input block at step `n`, from the gathered rows, the weights and the biases. -/
theorem row0_at (R : Cert.Spec.Mat 1024 512) (W : Cert.Spec.Mat 4096 512) (bi bh : Cert.Spec.Lin 4096) (n : ℕ) (b : Fin 8) (j : Fin 4096) :
    row2 (F := Ideal) (shapeCast S128x8x4096 (k1_pay1 (F := Ideal) (truncf (F := Ideal) (φ := .f32) .bf16 R bitsLt_bf16_f32)
      (transpose S512x4096 [1, 0] (truncf (F := Ideal) (φ := .f32) .bf16 W bitsLt_bf16_f32) transposes_S4096x512_S512x4096_1_0)
      (shapeCast S1x4096 (addf (F := Ideal) (φ := .f32) bi bh) shapeCasts_S4096_S1x4096)) shapeCasts_S1024x4096_S128x8x4096) n (ix3 0 b j)
    = (∑ k : Fin 512, R (ix2 ⟨(n % 128) * 8 + b.val, by omega⟩ k) * W (ix2 j k)) + (bi (ix1 j) + bh (ix1 j)) := by
  unfold row2
  pointwise [k1_pay1]

variable (hx : ∀ d : Dev nD, Cert.Spec.InVocab (m ((d.tc : Thread nD τ).loc main_arg0)))

/-! ## The first layer -/

include hx in
/-- The first recurrence's input block at step `n`. -/
theorem row0 (d : Dev nD) (n : ℕ) (b : Fin 8) (j : Fin 4096) : row2 (F := Ideal) (in2 m d main_v21) n (ix3 0 b j)
    = (∑ k : Fin 512, Cert.Spec.inputs (tok m d) (emb m d) n (ix2 b k) * wi0 m d (ix2 j k)) + (bi0 m d (ix1 j) + bh0 m d (ix1 j)) := by
  have hv : (val1 (in1 m) d main_v20 : FVec Ideal S1024x4096 .f32) = k1_pay1 (F := Ideal) (in1 m d main_v15) (in1 m d main_v17) (in1 m d main_v19) :=
    Function.update_self ..
  rw [in2_x, hv, in1_x m hx, in1_w, in1_b]
  exact row0_at _ _ _ _ n b j

include hx in
/-- The first recurrence's states are the first layer's. -/
theorem st2_eq (d : Dev nD) : ∀ n, st2 (F := Ideal) (in2 m d main_v21) (in2 m d main_v23) n = layer0 m d n
  | 0 => Prod.ext k2_zeroH k2_zeroC
  | n + 1 => by
    have hw : ∀ (k : Fin 1024) (j : Fin 4096), (in2 m d main_v23 : FVec Ideal S1024x4096 .bf16) (ix2 k j) = wh0 m d (ix2 j k) := by
      intro k j; rw [in2_w]; pointwise
    have hg := gatesK_eq (wi0 m d) (wh0 m d) (bi0 m d) (bh0 m d) (Cert.Spec.inputs (tok m d) (emb m d) n) (layer0 m d n).1 _ _ (row0 m hx d n) hw
    show step2 _ _ _ = _
    rw [st2_eq d n]
    unfold step2
    rw [k2_out', k2_cell', hg]
    rfl

include hx in
/-- The first recurrence's gates at step `n` are the first layer's. -/
theorem gates0 (d : Dev nD) (n : ℕ) : gatesK (row2 (F := Ideal) (in2 m d main_v21) n) (layer0 m d n).1 (in2 m d main_v23)
    = Cert.Spec.gates (wi0 m d) (wh0 m d) (bi0 m d) (bh0 m d) (Cert.Spec.inputs (tok m d) (emb m d) n) (layer0 m d n).1 :=
  gatesK_eq (wi0 m d) (wh0 m d) (bi0 m d) (bh0 m d) (Cert.Spec.inputs (tok m d) (emb m d) n) (layer0 m d n).1 _ _ (row0 m hx d n)
    (fun k j => by rw [in2_w]; pointwise)

include hx in
/-- The first recurrence's outputs are the first layer's. -/
theorem seq2_eq (d : Dev nD) (t : Fin 128) (b : Fin 8) (j : Fin 1024) :
    seq2 (F := Ideal) (in2 m d main_v21) (in2 m d main_v23) (ix3 t b j) = (layer0 m d (t.val + 1)).1 (ix2 b j) := by
  show k2_pay8 (F := Ideal) (row2 _ t.val) (st2 _ _ t.val).1 _ (st2 _ _ t.val).2 (ix3 0 b j) = _
  rw [st2_eq m hx, k2_step, gates0 m hx]
  rfl
include hx in
theorem lastH2_eq (d : Dev nD) : lastH2 (F := Ideal) (in2 m d main_v21) (in2 m d main_v23) = (layer0 m d 128).1 := by
  unfold lastH2
  rw [st2_eq m hx, k2_out, gates0 m hx]
  rfl
include hx in
theorem lastC2_eq (d : Dev nD) : lastC2 (F := Ideal) (in2 m d main_v21) (in2 m d main_v23) = (layer0 m d 128).2 := by
  unfold lastC2
  rw [st2_eq m hx, k2_cell, gates0 m hx]
  rfl

/-! ## The second layer -/

/-- The second recurrence's input block at step `n`, from the first layer's outputs, the weights and the biases. -/
theorem row1_at (H : FVec Ideal S128x8x1024 .f32) (W : Cert.Spec.Mat 4096 1024) (bi bh : Cert.Spec.Lin 4096) (n : ℕ) (b : Fin 8) (j : Fin 4096) :
    row4 (F := Ideal) (shapeCast S128x8x4096 (k3_pay1 (F := Ideal) (truncf (F := Ideal) (φ := .f32) .bf16 (shapeCast S1024x1024 H shapeCasts_S128x8x1024_S1024x1024) bitsLt_bf16_f32)
      (transpose S1024x4096 [1, 0] (truncf (F := Ideal) (φ := .f32) .bf16 W bitsLt_bf16_f32) transposes_S4096x1024_S1024x4096_1_0)
      (shapeCast S1x4096 (addf (F := Ideal) (φ := .f32) bi bh) shapeCasts_S4096_S1x4096)) shapeCasts_S1024x4096_S128x8x4096) n (ix3 0 b j)
    = (∑ k : Fin 1024, H (ix3 ⟨n % 128, Nat.mod_lt _ (by decide)⟩ b k) * W (ix2 j k)) + (bi (ix1 j) + bh (ix1 j)) := by
  unfold row4
  pointwise [k3_pay1]
  have e : (n % 128 * 8 + b.val) / 8 = n % 128 := by omega
  simp only [e]

/-- The second layer's state does not depend on inputs after the last step. -/
def layer1' (d : Dev nD) : ℕ → Cert.Spec.Mat 8 1024 × Cert.Spec.Mat 8 1024 :=
  Cert.Spec.layer (wi1 m d) (wh1 m d) (bi1 m d) (bh1 m d) (fun n => (layer0 m d (n % 128 + 1)).1)
theorem layer1'_eq (d : Dev nD) (n : ℕ) (h : n ≤ 128) : layer1' m d n = layer1 m d n :=
  Cert.Spec.layer_congr _ _ _ _ _ _ n fun k hk => by
    show (layer0 m d (k % 128 + 1)).1 = (layer0 m d (k + 1)).1
    rw [Nat.mod_eq_of_lt (by omega)]

include hx in
theorem row1 (d : Dev nD) (n : ℕ) (b : Fin 8) (j : Fin 4096) : row4 (F := Ideal) (in4 m d main_v32) n (ix3 0 b j)
    = (∑ k : Fin 1024, (layer0 m d (n % 128 + 1)).1 (ix2 b k) * wi1 m d (ix2 j k)) + (bi1 m d (ix1 j) + bh1 m d (ix1 j)) := by
  have hv : (val3 (in3 m) d main_v31 : FVec Ideal S1024x4096 .f32) = k3_pay1 (F := Ideal) (in3 m d main_v26) (in3 m d main_v28) (in3 m d main_v30) :=
    Function.update_self ..
  rw [in4_x, hv, in3_x, in3_w, in3_b, val2_0]
  refine (row1_at _ _ _ _ n b j).trans ?_
  simp only [seq2_eq m hx]

include hx in
/-- The second recurrence's gates at step `n` are the second layer's. -/
theorem gates1' (d : Dev nD) (n : ℕ) : gatesK (row4 (F := Ideal) (in4 m d main_v32) n) (layer1' m d n).1 (in4 m d main_v34)
    = Cert.Spec.gates (wi1 m d) (wh1 m d) (bi1 m d) (bh1 m d) (layer0 m d (n % 128 + 1)).1 (layer1' m d n).1 :=
  gatesK_eq (wi1 m d) (wh1 m d) (bi1 m d) (bh1 m d) (layer0 m d (n % 128 + 1)).1 (layer1' m d n).1 _ _ (row1 m hx d n)
    (fun k j => by rw [in4_w]; pointwise)

include hx in
/-- The second recurrence's states are the second layer's. -/
theorem st4_eq (d : Dev nD) : ∀ n, st4 (F := Ideal) (in4 m d main_v32) (in4 m d main_v34) n = layer1' m d n
  | 0 => Prod.ext k4_zeroH k4_zeroC
  | n + 1 => by
    show step4 _ _ _ = _
    rw [st4_eq d n]
    unfold step4
    rw [k4_out', k4_cell', gates1' m hx]
    rfl

include hx in
/-- The second recurrence's outputs are the second layer's. -/
theorem seq4_eq (d : Dev nD) (t : Fin 128) (b : Fin 8) (j : Fin 1024) :
    seq4 (F := Ideal) (in4 m d main_v32) (in4 m d main_v34) (ix3 t b j) = (layer1 m d (t.val + 1)).1 (ix2 b j) := by
  rw [← layer1'_eq m d (t.val + 1) (by omega)]
  show k4_pay8 (F := Ideal) (row4 _ t.val) (st4 _ _ t.val).1 _ (st4 _ _ t.val).2 (ix3 0 b j) = _
  rw [st4_eq m hx, k4_step, gates1' m hx]
  rfl
include hx in
theorem lastH4_eq (d : Dev nD) : lastH4 (F := Ideal) (in4 m d main_v32) (in4 m d main_v34) = (layer1 m d 128).1 := by
  rw [← layer1'_eq m d 128 (by omega)]
  unfold lastH4
  rw [st4_eq m hx, k4_out, gates1' m hx]
  rfl
include hx in
theorem lastC4_eq (d : Dev nD) : lastC4 (F := Ideal) (in4 m d main_v32) (in4 m d main_v34) = (layer1 m d 128).2 := by
  rw [← layer1'_eq m d 128 (by omega)]
  unfold lastC4
  rw [st4_eq m hx, k4_cell, gates1' m hx]
  rfl

/-! ## The results -/

/-- `fc` at an element, column blocks or not. -/
theorem fc_at (H : FVec Ideal S128x8x1024 .f32) (W : Cert.Spec.Mat 32000 1024) (B : Cert.Spec.Lin 32000) (b : Fin 8) (t : Fin 128) (v : Fin 32000) :
    shapeCast S8x128x32000 (fcVal (F := Ideal)
      (truncf (F := Ideal) (φ := .f32) .bf16 (shapeCast S1024x1024 (transpose S8x128x1024 [1, 0, 2] H transposes_S128x8x1024_S8x128x1024_1_0_2) shapeCasts_S8x128x1024_S1024x1024) bitsLt_bf16_f32)
      (transpose S1024x32000 [1, 0] (truncf (F := Ideal) (φ := .f32) .bf16 W bitsLt_bf16_f32) transposes_S32000x1024_S1024x32000_1_0)
      (shapeCast S1x32000 B shapeCasts_S32000_S1x32000)) shapeCasts_S1024x32000_S8x128x32000 (ix3 b t v)
    = (∑ k : Fin 1024, H (ix3 t b k) * W (ix2 v k)) + B (ix1 v) := by
  pointwise [fcVal, wcol, bcol, k5_pay1]
  have e : v.val / 3200 * 3200 + v.val % 3200 = v.val := by omega
  simp only [e]

include hx in
/-- The logits, -/
theorem logits_eq (d : Dev nD) : endVal m d main_v43 = Cert.Spec.logits (wo m d) (bo m d) (fun n => (layer1 m d n).1) := by
  have hv : (val5 (in5 m) d main_v42 : FVec Ideal S1024x32000 .f32) = fcVal (F := Ideal) (in5 m d main_v38) (in5 m d main_v40) (in5 m d main_v41) :=
    Function.update_self ..
  rw [end_logits, hv, in5_x, in5_w, in5_b, val4_0]
  funext i
  obtain ⟨b, t, v, rfl⟩ : ∃ (b : Fin 8) (t : Fin 128) (v : Fin 32000), i = ix3 b t v := ⟨_, _, _, eq_ix3 i⟩
  refine (fc_at _ _ _ b t v).trans ?_
  simp only [seq4_eq m hx]
  rfl

include hx in
/-- the final outputs -/
theorem outs_eq (d : Dev nD) : endVal m d main_v46 = concatenate S2x8x1024 0
    [⟨S1x8x1024, broadcastInDim S1x8x1024 ![1, 2] bcast_S8x1024_S1x8x1024_1_2 (layer0 m d 128).1⟩,
      ⟨S1x8x1024, broadcastInDim S1x8x1024 ![1, 2] bcast_S8x1024_S1x8x1024_1_2 (layer1 m d 128).1⟩]
    concatenates_S1x8x1024_S1x8x1024_S2x8x1024_d0 := by
  rw [end_h, lastH2_eq m hx, lastH4_eq m hx]
include hx in
/-- and the final cell states. -/
theorem cells_eq (d : Dev nD) : endVal m d main_v49 = concatenate S2x8x1024 0
    [⟨S1x8x1024, broadcastInDim S1x8x1024 ![1, 2] bcast_S8x1024_S1x8x1024_1_2 (layer0 m d 128).2⟩,
      ⟨S1x8x1024, broadcastInDim S1x8x1024 ![1, 2] bcast_S8x1024_S1x8x1024_1_2 (layer1 m d 128).2⟩]
    concatenates_S1x8x1024_S1x8x1024_S2x8x1024_d0 := by
  rw [end_c, lastC2_eq m hx, lastC4_eq m hx]

end Cert.KernelIdeal.Sc

end
-- ==== Proof.RefRows.lean ====
/-
  The reference's inputs as the gathered rows: under the precondition no index is wrapped and no row is filled.
-/
module

public import proofs.«01_k».proof.Proof.Spec
public import proofs.«01_k».proof.Proof.Gen.ReferenceIdeal.Run

@[expose] public section

noncomputable section

namespace Cert.ReferenceIdeal.Rows

open Cert.ReferenceIdeal Cert.ReferenceIdeal.Gen

open Idealize.ShloMosaic
open Idealize.ShloMosaic.ValueIdx
open Idealize.SL.Sem

variable {F : FTy → Type} [FloatOps F]

/-- The indices as the gather takes them: a negative index would be counted from the table's end. -/
abbrev startIdx (x : IVec S8x128 32) : IVec S8x128x1 32 :=
  broadcastInDim S8x128x1 ![0, 1] bcast_S8x128_S8x128x1_0_1 (select (cmpi .slt x (broadcastInDim S8x128 ![] bcast_S_S8x128 (constantI S_ 32 0#32)))
    (addi x (broadcastInDim S8x128 ![] bcast_S_S8x128 (constantI S_ 32 32000#32))) x)

theorem slt_zero (v : BitVec 32) (h : v.toNat < 32000) : IntOp.cmpi .slt v 0#32 = 0#1 := by
  have ofBool_eq (p : Bool) (hp : p = false) : BitVec.ofBool p = 0#1 := by subst hp; rfl
  refine ofBool_eq _ ?_
  simp only [BitVec.slt_eq_decide, decide_eq_false_iff_not, BitVec.toInt_eq_toNat_cond, BitVec.toNat_ofNat, Nat.reducePow, Nat.reduceMod]
  omega
theorem sge_zero (v : BitVec 32) (h : v.toNat < 32000) : IntOp.cmpi .sge v 0#32 = 1#1 := by
  have ofBool_eq (p : Bool) (hp : p = true) : BitVec.ofBool p = 1#1 := by subst hp; rfl
  refine ofBool_eq _ ?_
  simp only [BitVec.sle_eq_decide, decide_eq_true_eq, BitVec.toInt_eq_toNat_cond, BitVec.toNat_ofNat, Nat.reducePow, Nat.reduceMod]
  omega
theorem sle_last (v : BitVec 32) (h : v.toNat < 32000) : IntOp.cmpi .sle v 31999#32 = 1#1 := by
  have ofBool_eq (p : Bool) (hp : p = true) : BitVec.ofBool p = 1#1 := by subst hp; rfl
  refine ofBool_eq _ ?_
  simp only [BitVec.sle_eq_decide, decide_eq_true_eq, BitVec.toInt_eq_toNat_cond, BitVec.toNat_ofNat, Nat.reducePow, Nat.reduceMod]
  omega

theorem startIdx_apply (x : IVec S8x128 32) (hx : Cert.Spec.InVocab x) (b : Fin 8) (s : Fin 128) (k : Fin 1) :
    startIdx x (ix3 b s k) = x (ix2 b s) := by
  unfold startIdx
  rw [broadcastInDim_apply _ _ _ _ (ix2 b s) (by intro a; match a with | ⟨0, _⟩ => rfl | ⟨1, _⟩ => rfl)]
  show Scalar.select (IntOp.cmpi .slt (x (ix2 b s)) 0#32) _ _ = _
  rw [slt_zero _ (hx _)]
  rfl

/-- The gather read at an element: the named row of the table, when it is one. -/
theorem gather_apply (x : IVec S8x128x1 32) (emb : S32000x512.Idx → Elt F .f32) (b : Fin 8) (s : Fin 128) (c : Fin 512)
    (h : (x (ix3 b s 0)).toNat < 32000) :
    Host.gather gather_S32000x512_S8x128x1_S8x128x512_2_0_n_n_0_2_1512 emb x (ix3 b s c)
      = emb (ix2 ⟨(x (ix3 b s 0)).toNat % 32000, Nat.mod_lt _ (by decide)⟩ c) := by
  unfold Host.gather
  refine congrArg emb (funext fun a => Fin.ext ?_)
  let D := gather_S32000x512_S8x128x1_S8x128x512_2_0_n_n_0_2_1512
  show D.start (ix3 b s c) x a + D.batchCoord (ix3 b s c) a + D.offCoord (ix3 b s c) a = _
  match a with
  | ⟨0, _⟩ =>
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, _⟩ : Fin 2) ∈ D.startIndexMap from List.mem_singleton.mpr rfl)]
    have hsi : D.siIdx (ix3 b s c) ⟨List.idxOf (0 : Fin 2) D.startIndexMap, List.idxOf_lt_length_iff.2 (List.mem_singleton.mpr rfl)⟩ = ix3 b s 0 := by
      funext k; refine Fin.ext ?_
      match k with
      | ⟨0, _⟩ => rfl
      | ⟨1, _⟩ => rfl
      | ⟨2, _⟩ => rfl
    refine (congrArg (fun k => min (x k).toInt.toNat (32000 - 1)) hsi).trans ?_
    show min (x (ix3 b s 0)).toInt.toNat 31999 = (x (ix3 b s 0)).toNat % 32000
    simp only [BitVec.toInt_eq_toNat_cond]
    omega
  | ⟨1, _⟩ =>
    rw [GatherDims.batchCoord_eq_zero _ _ _ List.not_mem_nil]
    have hs : D.start (ix3 b s c) x ⟨1, by decide⟩ = 0 := by
      unfold GatherDims.start
      rw [dif_neg (by intro h; exact absurd (List.mem_singleton.mp h) (by decide))]
    exact (congrArg (· + 0 + _) hs).trans (by simp only [Nat.zero_add]; rfl)

/-- The reference's inputs, step by step, are the gathered rows. -/
theorem take_rows (x : IVec S8x128 32) (hx : Cert.Spec.InVocab x) (emb : S32000x512.Idx → Elt F .f32) (fill : S8x128x512.Idx → Elt F .f32)
    (t : Fin 128) (b : Fin 8) (c : Fin 512) :
    transpose S128x8x512 [1, 0, 2] (select (broadcastInDim S8x128x512 ![0, 1] bcast_S8x128_S8x128x512_0_1
      (Host.reduce IntOp.andi (andi (cmpi .sge (startIdx x) (broadcastInDim S8x128x1 ![] bcast_S_S8x128x1 (constantI S_ 32 0#32)))
        (cmpi .sle (startIdx x) (broadcastInDim S8x128x1 ![0, 1, 2] bcast_S1x1x1_S8x128x1_0_1_2 (broadcastInDim S1x1x1 ![2] bcast_S1_S1x1x1_2 (constantI S1 32 31999#32)))))
        (constantI S_ 1 1#1) reducesTo_S8x128x1_S8x128_d2 h_S_))
      (Host.gather gather_S32000x512_S8x128x1_S8x128x512_2_0_n_n_0_2_1512 emb (startIdx x)) fill) transposes_S8x128x512_S128x8x512_1_0_2 (ix3 t b c)
      = Cert.Spec.rowsOf x emb (ix2 ⟨t.val * 8 + b.val, by omega⟩ c) := by
  rw [transpose_apply _ _ _ _ (ix3 b t c) (by intro k; match k with | ⟨0, _⟩ => rfl | ⟨1, _⟩ => rfl | ⟨2, _⟩ => rfl)]
  show Scalar.select (broadcastInDim (s := S8x128) S8x128x512 ![0, 1] bcast_S8x128_S8x128x512_0_1 _ _) _ _ = _
  rw [broadcastInDim_apply _ _ _ _ (ix2 b t) (by intro a; match a with | ⟨0, _⟩ => rfl | ⟨1, _⟩ => rfl),
    Host.reduce_andi_one _ _ _ _ _ rfl fun i => by
      show IntOp.andi (IntOp.cmpi .sge (startIdx x i) 0#32) (IntOp.cmpi .sle (startIdx x i) 31999#32) = 1#1
      obtain ⟨b, s, k, rfl⟩ : ∃ (b : Fin 8) (s : Fin 128) (k : Fin 1), i = ix3 b s k := ⟨_, _, _, eq_ix3 i⟩
      rw [startIdx_apply x hx, sge_zero _ (hx _), sle_last _ (hx _)]; rfl,
    select_one, gather_apply _ _ _ _ _ (by rw [startIdx_apply x hx]; exact hx _), startIdx_apply x hx]
  unfold Cert.Spec.rowsOf
  have hi : (ix2 ⟨(t.val * 8 + b.val) % 8, by omega⟩ ⟨(t.val * 8 + b.val) / 8, by omega⟩ : S8x128.Idx) = ix2 b t := by
    funext a; match a with
      | ⟨0, _⟩ => exact Fin.ext (by show (t.val * 8 + b.val) % 8 = b.val; omega)
      | ⟨1, _⟩ => exact Fin.ext (by show (t.val * 8 + b.val) / 8 = t.val; omega)
  exact congrArg (fun v : BitVec 32 => emb (ix2 ⟨v.toNat % 32000, Nat.mod_lt _ (by decide)⟩ c)) (congrArg x hi.symm)

end Cert.ReferenceIdeal.Rows

end
-- ==== Proof.RefCells.lean ====
/-
  The reference's loop over the reals: one trip steps both layers, so after all trips the carried arrays are the layers' states.
-/
module

public import proofs.«01_k».proof.Proof.Layers
public import proofs.«01_k».proof.Proof.Gen.ReferenceIdeal.Run
public import Idealize.ShloMosaic.Lib.DynamicIndex

@[expose] public section

set_option maxRecDepth 16384

noncomputable section

namespace Cert.ReferenceIdeal.Loop

open Cert.ReferenceIdeal Cert.ReferenceIdeal.Gen Cert.ReferenceIdeal.Value

open Idealize.ShloMosaic Idealize.ShloMosaic.TcCoe
open Idealize.SL.Sem

/-! ## One trip's values -/

/-- The reference writes the sigmoid out. -/
abbrev sigm (x : FVec Ideal S8x1024 .f32) : FVec Ideal S8x1024 .f32 :=
  Host.divf (broadcastInDim S8x1024 ![] bcast_S_S8x1024 (constant S_ .f32 0x3F800000#32))
    (addf (broadcastInDim S8x1024 ![] bcast_S_S8x1024 (constant S_ .f32 0x3F800000#32)) (Host.exp (Host.negf x)))
theorem sigm_apply (x : FVec Ideal S8x1024 .f32) (p : S8x1024.Idx) : sigm x p = Ideal.logistic (x p) := by
  unfold Ideal.logistic
  pointwise

/-- The new cell state, -/
theorem cell_eq (g : FVec Ideal S8x4096 .f32) (c : FVec Ideal S8x1024 .f32) :
    addf (mulf (sigm (extractStridedSlice S8x1024 ![0, 1024] g slices_S8x4096_S8x1024_0_1024)) c)
      (mulf (sigm (extractStridedSlice S8x1024 ![0, 0] g slices_S8x4096_S8x1024_0_0)) (Host.tanh (extractStridedSlice S8x1024 ![0, 2048] g slices_S8x4096_S8x1024_0_2048)))
      = Cert.Spec.cellC g c := by
  funext p
  show sigm _ p * c p + sigm _ p * Ideal.tanh _ = _
  rw [sigm_apply, sigm_apply]
  pointwise [Cert.Spec.cellC]
/-- and the new output. -/
theorem out_eq (g : FVec Ideal S8x4096 .f32) (c : FVec Ideal S8x1024 .f32) :
    mulf (sigm (extractStridedSlice S8x1024 ![0, 3072] g slices_S8x4096_S8x1024_0_3072)) (Host.tanh (φ := .f32) (F := Ideal) (Cert.Spec.cellC g c)) = Cert.Spec.cellH g c := by
  funext p
  show sigm _ p * Ideal.tanh _ = _
  rw [sigm_apply]
  unfold Cert.Spec.cellH
  generalize Cert.Spec.cellC g c p = e
  pointwise

/-- The trip's part of the inputs. -/
theorem slice_eq (X : FVec Ideal S128x8x512 .f32) (i : IVec S_ 32) (n : ℕ) (hn : n < 128) (hi : i = fun _ => BitVec.ofNat 32 n) :
    shapeCast S8x512 (Host.dynamicSlice S1x8x512 X (fun k => (((![i, constantI S_ 32 0#32, constantI S_ 32 0#32] : Fin 3 → IVec S_ 32)) k (Shape.Idx.first h_S_)).toInt)
      sliceFits_S128x8x512_S1x8x512) shapeCasts_S1x8x512_S8x512 = fun p => X (ix3 ⟨n, hn⟩ (p 0) (p 1)) := by
  subst hi
  have hv : (BitVec.ofNat 32 n).toInt = (n : Int) := by
    rw [BitVec.toInt_eq_toNat_cond, BitVec.toNat_ofNat, Nat.mod_eq_of_lt (by omega), if_pos (by omega)]
  rw [Host.dynamicSlice_eq_extractStridedSlice S1x8x512 X _ ![n, 0, 0] sliceFits_S128x8x512_S1x8x512
    ⟨rfl, fun a => match a with
      | ⟨0, _⟩ => by show n + 1 ≤ 128; omega
      | ⟨1, _⟩ => by show 0 + 8 ≤ 8; omega
      | ⟨2, _⟩ => by show 0 + 512 ≤ 512; omega⟩
    (fun a => match a with
      | ⟨0, _⟩ => hv
      | ⟨1, _⟩ => rfl
      | ⟨2, _⟩ => rfl)]
  funext p
  pointwise

/-- The first layer's gates, -/
theorem gates0_eq (X : FVec Ideal S8x512 .f32) (h : FVec Ideal S8x1024 .f32) (Wi : FVec Ideal S4096x512 .f32) (Wh : FVec Ideal S4096x1024 .f32) (bi bh : FVec Ideal S4096 .f32) :
    addf (addf (addf (Host.dotGeneral dot_S8x512_S512x4096_S8x4096_1_0_0_1_n_n none X (transpose S512x4096 [1, 0] Wi transposes_S4096x512_S512x4096_1_0))
        (broadcastInDim S8x4096 ![0, 1] bcast_S1x4096_S8x4096_0_1 (broadcastInDim S1x4096 ![1] bcast_S4096_S1x4096_1 bi)))
      (Host.dotGeneral dot_S8x1024_S1024x4096_S8x4096_1_0_0_1_n_n none h (transpose S1024x4096 [1, 0] Wh transposes_S4096x1024_S1024x4096_1_0)))
      (broadcastInDim S8x4096 ![0, 1] bcast_S1x4096_S8x4096_0_1 (broadcastInDim S1x4096 ![1] bcast_S4096_S1x4096_1 bh)) = Cert.Spec.gates Wi Wh bi bh X h := by
  funext p
  pointwise [Cert.Spec.gates]
/-- and the second's. -/
theorem gates1_eq (X : FVec Ideal S8x1024 .f32) (h : FVec Ideal S8x1024 .f32) (Wi : FVec Ideal S4096x1024 .f32) (Wh : FVec Ideal S4096x1024 .f32) (bi bh : FVec Ideal S4096 .f32) :
    addf (addf (addf (Host.dotGeneral dot_S8x1024_S1024x4096_S8x4096_1_0_0_1_n_n none X (transpose S1024x4096 [1, 0] Wi transposes_S4096x1024_S1024x4096_1_0))
        (broadcastInDim S8x4096 ![0, 1] bcast_S1x4096_S8x4096_0_1 (broadcastInDim S1x4096 ![1] bcast_S4096_S1x4096_1 bi)))
      (Host.dotGeneral dot_S8x1024_S1024x4096_S8x4096_1_0_0_1_n_n none h (transpose S1024x4096 [1, 0] Wh transposes_S4096x1024_S1024x4096_1_0)))
      (broadcastInDim S8x4096 ![0, 1] bcast_S1x4096_S8x4096_0_1 (broadcastInDim S1x4096 ![1] bcast_S4096_S1x4096_1 bh)) = Cert.Spec.gates Wi Wh bi bh X h := by
  funext p
  pointwise [Cert.Spec.gates]

/-- The outputs after a trip: step `n` is the new output, the others are as before. -/
theorem update_eq (Y : FVec Ideal S128x8x1024 .f32) (u : FVec Ideal S8x1024 .f32) (i : IVec S_ 32) (n : ℕ) (hn : n < 128) (hi : i = fun _ => BitVec.ofNat 32 n)
    (t : Fin 128) (b : Fin 8) (j : Fin 1024) :
    Host.dynamicUpdateSlice Y (broadcastInDim S1x8x1024 ![1, 2] bcast_S8x1024_S1x8x1024_1_2 u)
      (fun k => (((![i, constantI S_ 32 0#32, constantI S_ 32 0#32] : Fin 3 → IVec S_ 32)) k (Shape.Idx.first h_S_)).toInt) updateFits_S128x8x1024_S1x8x1024 (ix3 t b j)
      = if t.val = n then u (ix2 b j) else Y (ix3 t b j) := by
  subst hi
  have hv : (BitVec.ofNat 32 n).toInt = (n : Int) := by
    rw [BitVec.toInt_eq_toNat_cond, BitVec.toNat_ofNat, Nat.mod_eq_of_lt (by omega), if_pos (by omega)]
  rw [Host.dynamicUpdateSlice_eq_updateSlice Y _ _ updateFits_S128x8x1024_S1x8x1024 ![n, 0, 0]
    (fun a => match a with
      | ⟨0, _⟩ => by show (min (max (BitVec.ofNat 32 n).toInt 0) ((128 - 1 : Nat) : Int)).toNat = n; rw [hv]; omega
      | ⟨1, _⟩ => rfl
      | ⟨2, _⟩ => rfl)
    ⟨rfl, fun a => match a with
      | ⟨0, _⟩ => by show n + 1 ≤ 128; omega
      | ⟨1, _⟩ => by show 0 + 8 ≤ 8; omega
      | ⟨2, _⟩ => by show 0 + 1024 ≤ 1024; omega⟩]
  pointwise
  by_cases e : t.val = n
  · rw [dif_pos ⟨by omega, by omega⟩, if_pos e]
  · rw [dif_neg (fun h => e (by omega)), if_neg e]

/-! ## The loop -/

variable (x : ℕ → Cert.Spec.Mat 8 512) (Wi0 : Cert.Spec.Mat 4096 512) (Wh0 : Cert.Spec.Mat 4096 1024) (bi0 bh0 : Cert.Spec.Lin 4096)
  (Wi1 Wh1 : Cert.Spec.Mat 4096 1024) (bi1 bh1 : Cert.Spec.Lin 4096)

/-- The first layer, -/
abbrev lay0 : ℕ → Cert.Spec.Mat 8 1024 × Cert.Spec.Mat 8 1024 := Cert.Spec.layer Wi0 Wh0 bi0 bh0 x
/-- and the second over its outputs. -/
abbrev lay1 : ℕ → Cert.Spec.Mat 8 1024 × Cert.Spec.Mat 8 1024 := Cert.Spec.layer Wi1 Wh1 bi1 bh1 (fun n => (lay0 x Wi0 Wh0 bi0 bh0 (n + 1)).1)

/-- The carried arrays before trip `n`: the inputs, the weights and biases, the trip's number, both layers' states, and the second
    layer's outputs of the steps made. -/
structure Before (V : Valuation τ sig (Elt Ideal)) (n : ℕ) : Prop where
  inp : ∀ (t : Fin 128) (b : Fin 8) (k : Fin 512), (V main_v4_0 : FVec Ideal S128x8x512 .f32) (ix3 t b k) = x t.val (ix2 b k)
  w1 : V main_v4_1 = Wi0
  w2 : V main_v4_2 = bi0
  w3 : V main_v4_3 = Wh0
  w4 : V main_v4_4 = bh0
  w5 : V main_v4_5 = Wi1
  w6 : V main_v4_6 = bi1
  w7 : V main_v4_7 = Wh1
  w8 : V main_v4_8 = bh1
  trip : V main_v4_9 = fun _ => BitVec.ofNat 32 n
  h0 : V main_v4_10 = (lay0 x Wi0 Wh0 bi0 bh0 n).1
  c0 : V main_v4_11 = (lay0 x Wi0 Wh0 bi0 bh0 n).2
  h1 : V main_v4_12 = (lay1 x Wi0 Wh0 bi0 bh0 Wi1 Wh1 bi1 bh1 n).1
  c1 : V main_v4_13 = (lay1 x Wi0 Wh0 bi0 bh0 Wi1 Wh1 bi1 bh1 n).2
  out : ∀ (t : Fin 128) (b : Fin 8) (j : Fin 1024), t.val < n →
    (V main_v4_14 : FVec Ideal S128x8x1024 .f32) (ix3 t b j) = (lay1 x Wi0 Wh0 bi0 bh0 Wi1 Wh1 bi1 bh1 (t.val + 1)).1 (ix2 b j)

variable {x Wi0 Wh0 bi0 bh0 Wi1 Wh1 bi1 bh1}

/-- One trip takes the arrays before it to the arrays before the next. -/
theorem Before.step {V : Valuation τ sig (Elt Ideal)} {n : ℕ} (hn : n < 128) (H : Before x Wi0 Wh0 bi0 bh0 Wi1 Wh1 bi1 bh1 V n) :
    Before x Wi0 Wh0 bi0 bh0 Wi1 Wh1 bi1 bh1 (STEP V) (n + 1) := by
  have g0 : res_main_while0b_v28 V = Cert.Spec.gates Wi0 Wh0 bi0 bh0 (x n) (lay0 x Wi0 Wh0 bi0 bh0 n).1 := by
    refine (gates0_eq _ _ _ _ _ _).trans ?_
    rw [H.w1, H.w2, H.w3, H.w4, H.h0]
    refine congrArg (fun z => Cert.Spec.gates Wi0 Wh0 bi0 bh0 z (lay0 x Wi0 Wh0 bi0 bh0 n).1) ?_
    refine (slice_eq _ _ n hn H.trip).trans ?_
    funext p
    rw [eq_ix2 p]
    exact H.inp ⟨n, hn⟩ (p 0) (p 1)
  have ec0 : res_main_while0b_v54 V = (lay0 x Wi0 Wh0 bi0 bh0 (n + 1)).2 := by
    refine (cell_eq _ _).trans ?_
    rw [g0, H.c0]
    rfl
  have eh0 : res_main_while0b_v56 V = (lay0 x Wi0 Wh0 bi0 bh0 (n + 1)).1 := by
    unfold res_main_while0b_v56
    rw [ec0, g0]
    exact out_eq _ _
  have g1 : res_main_while0b_v67 V = Cert.Spec.gates Wi1 Wh1 bi1 bh1 (lay0 x Wi0 Wh0 bi0 bh0 (n + 1)).1 (lay1 x Wi0 Wh0 bi0 bh0 Wi1 Wh1 bi1 bh1 n).1 := by
    refine (gates1_eq _ _ _ _ _ _).trans ?_
    rw [eh0, H.w5, H.w6, H.w7, H.w8, H.h1]
  have ec1 : res_main_while0b_v93 V = (lay1 x Wi0 Wh0 bi0 bh0 Wi1 Wh1 bi1 bh1 (n + 1)).2 := by
    refine (cell_eq _ _).trans ?_
    rw [g1, H.c1]
    rfl
  have eh1 : res_main_while0b_v95 V = (lay1 x Wi0 Wh0 bi0 bh0 Wi1 Wh1 bi1 bh1 (n + 1)).1 := by
    unfold res_main_while0b_v95
    rw [ec1, g1]
    exact out_eq _ _
  exact {
    inp := by rw [STEP_main_v4_0]; exact H.inp
    w1 := (STEP_main_v4_1 V).trans H.w1
    w2 := (STEP_main_v4_2 V).trans H.w2
    w3 := (STEP_main_v4_3 V).trans H.w3
    w4 := (STEP_main_v4_4 V).trans H.w4
    w5 := (STEP_main_v4_5 V).trans H.w5
    w6 := (STEP_main_v4_6 V).trans H.w6
    w7 := (STEP_main_v4_7 V).trans H.w7
    w8 := (STEP_main_v4_8 V).trans H.w8
    trip := by
      rw [STEP_main_v4_9]
      unfold step_main_v4_9
      rw [H.trip]
      funext p
      show BitVec.ofNat 32 n + 1#32 = BitVec.ofNat 32 (n + 1)
      rw [← BitVec.ofNat_add]
    h0 := (STEP_main_v4_10 V).trans eh0
    c0 := (STEP_main_v4_11 V).trans ec0
    h1 := (STEP_main_v4_12 V).trans eh1
    c1 := (STEP_main_v4_13 V).trans ec1
    out := fun t b j ht => by
      rw [STEP_main_v4_14]
      refine (update_eq _ _ _ n hn H.trip t b j).trans ?_
      by_cases e : t.val = n
      · rw [if_pos e, e, eh1]
      · rw [if_neg e]; exact H.out t b j (by omega) }

/-- So from the arrays before the first trip, all 128 trips make the arrays after the last. -/
theorem Before.iterate {V : Valuation τ sig (Elt Ideal)} (H : Before x Wi0 Wh0 bi0 bh0 Wi1 Wh1 bi1 bh1 V 0) :
    ∀ n ≤ 128, Before x Wi0 Wh0 bi0 bh0 Wi1 Wh1 bi1 bh1 (STEP^[n] V) n
  | 0, _ => H
  | n + 1, h => by rw [Function.iterate_succ_apply']; exact (Before.iterate H n (by omega)).step (by omega)

end Cert.ReferenceIdeal.Loop

end
-- ==== Proof.RefValues.lean ====
/-
  The reference's run over the reals: its three results from its arguments.
-/
module

public import proofs.«01_k».proof.Proof.RefRows
public import proofs.«01_k».proof.Proof.RefCells
public import Idealize.ShloMosaic.Lib.Pointwise.IndexBridge

@[expose] public section

set_option maxRecDepth 16384

noncomputable section

namespace Cert.ReferenceIdeal.Loop

open Cert.ReferenceIdeal Cert.ReferenceIdeal.Gen Cert.ReferenceIdeal.Value

open Idealize.ShloMosaic Idealize.ShloMosaic.TcCoe Idealize.ShloMosaic.StableHlo
open Idealize.SL.Sem

variable (m : (ℓ : Loc nD τ sig) → Buf (Elt Ideal) ℓ)

/-- The arguments: the tokens, the table, each layer's weights and biases, and the output layer's. -/
abbrev tok (d : Dev nD) : IVec S8x128 32 := m ((d.tc : Thread nD τ).loc main_arg0)
abbrev emb (d : Dev nD) : Cert.Spec.Mat 32000 512 := m ((d.tc : Thread nD τ).loc main_arg1)
abbrev wi0 (d : Dev nD) : Cert.Spec.Mat 4096 512 := m ((d.tc : Thread nD τ).loc main_arg2)
abbrev wh0 (d : Dev nD) : Cert.Spec.Mat 4096 1024 := m ((d.tc : Thread nD τ).loc main_arg3)
abbrev bi0 (d : Dev nD) : Cert.Spec.Lin 4096 := m ((d.tc : Thread nD τ).loc main_arg4)
abbrev bh0 (d : Dev nD) : Cert.Spec.Lin 4096 := m ((d.tc : Thread nD τ).loc main_arg5)
abbrev wi1 (d : Dev nD) : Cert.Spec.Mat 4096 1024 := m ((d.tc : Thread nD τ).loc main_arg6)
abbrev wh1 (d : Dev nD) : Cert.Spec.Mat 4096 1024 := m ((d.tc : Thread nD τ).loc main_arg7)
abbrev bi1 (d : Dev nD) : Cert.Spec.Lin 4096 := m ((d.tc : Thread nD τ).loc main_arg8)
abbrev bh1 (d : Dev nD) : Cert.Spec.Lin 4096 := m ((d.tc : Thread nD τ).loc main_arg9)
abbrev wo (d : Dev nD) : Cert.Spec.Mat 32000 1024 := m ((d.tc : Thread nD τ).loc main_arg10)
abbrev bo (d : Dev nD) : Cert.Spec.Lin 32000 := m ((d.tc : Thread nD τ).loc main_arg11)

/-- The first layer from the arguments, -/
abbrev layer0 (d : Dev nD) : ℕ → Cert.Spec.Mat 8 1024 × Cert.Spec.Mat 8 1024 :=
  lay0 (Cert.Spec.inputs (tok m d) (emb m d)) (wi0 m d) (wh0 m d) (bi0 m d) (bh0 m d)
/-- and the second. -/
abbrev layer1 (d : Dev nD) : ℕ → Cert.Spec.Mat 8 1024 × Cert.Spec.Mat 8 1024 :=
  lay1 (Cert.Spec.inputs (tok m d) (emb m d)) (wi0 m d) (wh0 m d) (bi0 m d) (bh0 m d) (wi1 m d) (wh1 m d) (bi1 m d) (bh1 m d)

/-- The inputs at the loop's entry are the gathered rows. -/
theorem entry_inp (hx : ∀ d : Dev nD, Cert.Spec.InVocab (m ((d.tc : Thread nD τ).loc main_arg0))) (d : Dev nD) (t : Fin 128) (b : Fin 8) (k : Fin 512) :
    (entryContents preI m d main_v4_0 : FVec Ideal S128x8x512 .f32) (ix3 t b k) = Cert.Spec.inputs (tok m d) (emb m d) t.val (ix2 b k) := by
  have h := Rows.take_rows (F := Ideal) (tok m d) (hx d) (emb m d) (broadcastInDim S8x128x512 ![] bcast_S_S8x128x512 (constant (F := Ideal) S_ .f32 0x7FC00000#32) : FVec Ideal S8x128x512 .f32) t b k
  rw [← ix3_eq_valueIdx, ← ix2_eq_valueIdx] at h
  refine Eq.trans ?_ (h.trans ?_)
  · refine congrFun ?_ (ix3 t b k)
    simp only [entryContents, afterL_cons, afterL_nil]
    after_reads_simp
    rfl
  · have e : (t.val % 128) * 8 = t.val * 8 := by omega
    unfold Cert.Spec.inputs
    simp only [e]
    rfl

/-- The states start at zero. -/
theorem zeros_eq : (broadcastInDim S8x1024 ![] bcast_S_S8x1024 (constant (F := Ideal) S_ .f32 0x00000000#32) : FVec Ideal S8x1024 .f32) = fun _ => 0 := by
  funext p
  pointwise

/-- Before the first trip the arrays are the arguments, the inputs and zeros. -/
theorem before_entry (hx : ∀ d : Dev nD, Cert.Spec.InVocab (m ((d.tc : Thread nD τ).loc main_arg0))) (d : Dev nD) :
    Before (Cert.Spec.inputs (tok m d) (emb m d)) (wi0 m d) (wh0 m d) (bi0 m d) (bh0 m d) (wi1 m d) (wh1 m d) (bi1 m d) (bh1 m d) (entryContents preI m d) 0 where
  inp := entry_inp m hx d
  w1 := by simp only [entryContents, afterL_cons, afterL_nil]; after_reads_simp; rfl
  w2 := by simp only [entryContents, afterL_cons, afterL_nil]; after_reads_simp; rfl
  w3 := by simp only [entryContents, afterL_cons, afterL_nil]; after_reads_simp; rfl
  w4 := by simp only [entryContents, afterL_cons, afterL_nil]; after_reads_simp; rfl
  w5 := by simp only [entryContents, afterL_cons, afterL_nil]; after_reads_simp; rfl
  w6 := by simp only [entryContents, afterL_cons, afterL_nil]; after_reads_simp; rfl
  w7 := by simp only [entryContents, afterL_cons, afterL_nil]; after_reads_simp; rfl
  w8 := by simp only [entryContents, afterL_cons, afterL_nil]; after_reads_simp; rfl
  trip := ctr_entry m d
  h0 := by
    simp only [entryContents, afterL_cons, afterL_nil]; after_reads_simp
    exact zeros_eq
  c0 := by
    simp only [entryContents, afterL_cons, afterL_nil]; after_reads_simp
    exact zeros_eq
  h1 := by
    simp only [entryContents, afterL_cons, afterL_nil]; after_reads_simp
    exact zeros_eq
  c1 := by
    simp only [entryContents, afterL_cons, afterL_nil]; after_reads_simp
    exact zeros_eq
  out := fun t b j h => absurd h (by omega)

/-- The output layer at an element. -/
theorem logits_at (Y : FVec Ideal S128x8x1024 .f32) (W : FVec Ideal S32000x1024 .f32) (B : FVec Ideal S32000 .f32) (b : Fin 8) (t : Fin 128) (v : Fin 32000) :
    addf (Host.dotGeneral dot_S8x128x1024_S1024x32000_S8x128x32000_2_0_01_1_n_n none (transpose S8x128x1024 [1, 0, 2] Y transposes_S128x8x1024_S8x128x1024_1_0_2)
        (transpose S1024x32000 [1, 0] W transposes_S32000x1024_S1024x32000_1_0))
      (broadcastInDim S8x128x32000 ![0, 1, 2] bcast_S1x1x32000_S8x128x32000_0_1_2 (broadcastInDim S1x1x32000 ![2] bcast_S32000_S1x1x32000_2 B)) (ix3 b t v)
    = (∑ k : Fin 1024, Y (ix3 t b k) * W (ix2 v k)) + B (ix1 v) := by
  pointwise

/-- From any memory whose indices name rows of the table, the reference runs to its end: its results are the logits, the layers'
    final outputs and their final cell states, and its arguments are unchanged. -/
theorem run_values (ρ : Dev nD → PrngReg) (hx : ∀ d : Dev nD, Cert.Spec.InVocab (m ((d.tc : Thread nD τ).loc main_arg0))) :
    θ_run (defs (F := Ideal)) (onTc (τ := τ) (main (F := Ideal))) ⟨m, fun _ => 0, ρ⟩ fun r => ∀ c : Dev nD,
      r.2.mem ((c.tc : Thread nD τ).loc main_v10) = Cert.Spec.logits (wo m c) (bo m c) (fun n => (layer1 m c n).1)
      ∧ r.2.mem ((c.tc : Thread nD τ).loc main_v13) = concatenate S2x8x1024 0
          [⟨S1x8x1024, broadcastInDim S1x8x1024 ![1, 2] bcast_S8x1024_S1x8x1024_1_2 (layer0 m c 128).1⟩,
            ⟨S1x8x1024, broadcastInDim S1x8x1024 ![1, 2] bcast_S8x1024_S1x8x1024_1_2 (layer1 m c 128).1⟩]
          concatenates_S1x8x1024_S1x8x1024_S2x8x1024_d0
      ∧ r.2.mem ((c.tc : Thread nD τ).loc main_v16) = concatenate S2x8x1024 0
          [⟨S1x8x1024, broadcastInDim S1x8x1024 ![1, 2] bcast_S8x1024_S1x8x1024_1_2 (layer0 m c 128).2⟩,
            ⟨S1x8x1024, broadcastInDim S1x8x1024 ![1, 2] bcast_S8x1024_S1x8x1024_1_2 (layer1 m c 128).2⟩]
          concatenates_S1x8x1024_S1x8x1024_S2x8x1024_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ?_) (Value.run m ρ)
  have H := (before_entry m hx c).iterate 128 (by omega)
  refine ⟨(h c).1.trans ?_, (h c).2.1.trans ?_, (h c).2.2.1.trans ?_, (h c).2.2.2⟩
  · unfold out_main_v10
    rw [iter_main_arg10, iter_main_arg11]
    funext i
    obtain ⟨b, t, v, rfl⟩ : ∃ (b : Fin 8) (t : Fin 128) (v : Fin 32000), i = ix3 b t v := ⟨_, _, _, eq_ix3 i⟩
    refine (logits_at _ _ _ b t v).trans ?_
    simp only [H.out t _ _ t.isLt]
    rfl
  · unfold out_main_v13
    rw [H.h0, H.h1]
  · unfold out_main_v16
    rw [H.c0, H.c1]

end Cert.ReferenceIdeal.Loop

end
-- ==== Proof.lean ====
/-
  The claims: every program runs to its end with its arguments unchanged and every semaphore at zero, and the kernel's three
  results over the reals are the reference's: both sides' are the two layers' states (`Cert.Spec.layer`) over the gathered rows
  (`Cert.Spec.rowsOf`) and the logits (`Cert.Spec.logits`) of the second layer's outputs.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_vocab
public import proofs.«01_k».proof.Proof.Rows
public import proofs.«01_k».proof.Proof.Values
public import proofs.«01_k».proof.Proof.RefValues
public import Idealize.ShloMosaic.Adequacy
public import Idealize.ShloMosaic.Init

@[expose] public section

noncomputable section

namespace Cert.Proof

open Idealize.ShloMosaic Idealize.SL.Sem

/-- The kernel runs to its end with its arguments unchanged, -/
theorem frame_p : Cert.quiescent_Kernel := fun m ρ hpre =>
  (θ_run Cert.Kernel.defs _ _).mono (fun _ H => ⟨fun c => have h := (H.1 c).2
      ⟨h Cert.Kernel.main_arg0 (by decide), h Cert.Kernel.main_arg1 (by decide), h Cert.Kernel.main_arg2 (by decide), h Cert.Kernel.main_arg3 (by decide), h Cert.Kernel.main_arg4 (by decide), h Cert.Kernel.main_arg5 (by decide), h Cert.Kernel.main_arg6 (by decide), h Cert.Kernel.main_arg7 (by decide), h Cert.Kernel.main_arg8 (by decide), h Cert.Kernel.main_arg9 (by decide), h Cert.Kernel.main_arg10 (by decide), h Cert.Kernel.main_arg11 (by decide)⟩, H.2⟩)
    (Cert.Kernel.Sc.run_rows (F := Bits) m ρ fun d => Cert.Spec.inVocab_of_pre _ _ _ _ _ _ _ _ _ _ _ _ (hpre d))

/-- and so over the reals; -/
theorem frame_pi : Cert.quiescent_KernelIdeal := fun m ρ hpre =>
  (θ_run Cert.KernelIdeal.defs _ _).mono (fun _ H => ⟨fun c => have h := (H.1 c).2
      ⟨h Cert.KernelIdeal.main_arg0 (by decide), h Cert.KernelIdeal.main_arg1 (by decide), h Cert.KernelIdeal.main_arg2 (by decide), h Cert.KernelIdeal.main_arg3 (by decide), h Cert.KernelIdeal.main_arg4 (by decide), h Cert.KernelIdeal.main_arg5 (by decide), h Cert.KernelIdeal.main_arg6 (by decide), h Cert.KernelIdeal.main_arg7 (by decide), h Cert.KernelIdeal.main_arg8 (by decide), h Cert.KernelIdeal.main_arg9 (by decide), h Cert.KernelIdeal.main_arg10 (by decide), h Cert.KernelIdeal.main_arg11 (by decide)⟩, H.2⟩)
    (Cert.KernelIdeal.Sc.run_rows (F := Ideal) m ρ fun d => Cert.Spec.inVocab_of_pre _ _ _ _ _ _ _ _ _ _ _ _ (hpre d))

/-- so does the reference. -/
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- With the same arguments on both sides the reference's two layers are the kernel's. -/
theorem layers_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : Cert.ReferenceIdeal.Loop.tok m' c = Cert.KernelIdeal.Sc.tok m c)
    (a1 : Cert.ReferenceIdeal.Loop.emb m' c = Cert.KernelIdeal.Sc.emb m c)
    (a2 : Cert.ReferenceIdeal.Loop.wi0 m' c = Cert.KernelIdeal.Sc.wi0 m c)
    (a3 : Cert.ReferenceIdeal.Loop.wh0 m' c = Cert.KernelIdeal.Sc.wh0 m c)
    (a4 : Cert.ReferenceIdeal.Loop.bi0 m' c = Cert.KernelIdeal.Sc.bi0 m c)
    (a5 : Cert.ReferenceIdeal.Loop.bh0 m' c = Cert.KernelIdeal.Sc.bh0 m c)
    (a6 : Cert.ReferenceIdeal.Loop.wi1 m' c = Cert.KernelIdeal.Sc.wi1 m c)
    (a7 : Cert.ReferenceIdeal.Loop.wh1 m' c = Cert.KernelIdeal.Sc.wh1 m c)
    (a8 : Cert.ReferenceIdeal.Loop.bi1 m' c = Cert.KernelIdeal.Sc.bi1 m c)
    (a9 : Cert.ReferenceIdeal.Loop.bh1 m' c = Cert.KernelIdeal.Sc.bh1 m c) :
    Cert.ReferenceIdeal.Loop.layer0 m' c = Cert.KernelIdeal.Sc.layer0 m c ∧ Cert.ReferenceIdeal.Loop.layer1 m' c = Cert.KernelIdeal.Sc.layer1 m c := by
  unfold Cert.ReferenceIdeal.Loop.layer0 Cert.ReferenceIdeal.Loop.layer1 Cert.ReferenceIdeal.Loop.lay0 Cert.ReferenceIdeal.Loop.lay1 Cert.KernelIdeal.Sc.layer1 Cert.KernelIdeal.Sc.layer0
  rw [a0, a1, a2, a3, a4, a5, a6, a7, a8, a9]
  exact ⟨rfl, rfl⟩

/-- Over the reals the kernel's results are the reference's. -/
theorem algebraic : Cert.algebraic_KernelIdeal_ReferenceIdeal := by
  intro m ρ m' ρ' hpre hagree
  have hx : ∀ d : Dev Cert.KernelIdeal.nD, Cert.Spec.InVocab (m ((d.tc : Thread Cert.KernelIdeal.nD Cert.KernelIdeal.τ).loc Cert.KernelIdeal.main_arg0)) :=
    fun d => Cert.Spec.inVocab_of_pre _ _ _ _ _ _ _ _ _ _ _ _ (hpre d)
  refine ⟨fun c => Cert.KernelIdeal.Sc.endVal m c ((Proc.tc : Proc Cert.KernelIdeal.τ).devRef Cert.KernelIdeal.main_v43),
    fun c => Cert.KernelIdeal.Sc.endVal m c ((Proc.tc : Proc Cert.KernelIdeal.τ).devRef Cert.KernelIdeal.main_v46),
    fun c => Cert.KernelIdeal.Sc.endVal m c ((Proc.tc : Proc Cert.KernelIdeal.τ).devRef Cert.KernelIdeal.main_v49), ?_, ?_⟩
  · exact (θ_run Cert.KernelIdeal.defs _ _).mono (fun _ H c => have h := (H.1 c).2
      ⟨(H.1 c).1.1, (H.1 c).1.2.1, (H.1 c).1.2.2, h Cert.KernelIdeal.main_arg0 (by decide), h Cert.KernelIdeal.main_arg1 (by decide), h Cert.KernelIdeal.main_arg2 (by decide), h Cert.KernelIdeal.main_arg3 (by decide), h Cert.KernelIdeal.main_arg4 (by decide), h Cert.KernelIdeal.main_arg5 (by decide), h Cert.KernelIdeal.main_arg6 (by decide), h Cert.KernelIdeal.main_arg7 (by decide), h Cert.KernelIdeal.main_arg8 (by decide), h Cert.KernelIdeal.main_arg9 (by decide), h Cert.KernelIdeal.main_arg10 (by decide), h Cert.KernelIdeal.main_arg11 (by decide)⟩) (Cert.KernelIdeal.Sc.run_rows (F := Ideal) m ρ hx)
  · have hx' : ∀ d : Dev Cert.ReferenceIdeal.nD, Cert.Spec.InVocab (m' ((d.tc : Thread Cert.ReferenceIdeal.nD Cert.ReferenceIdeal.τ).loc Cert.ReferenceIdeal.main_arg0)) :=
      fun d => by rw [(hagree d).1]; exact hx d
    refine (θ_run Cert.ReferenceIdeal.defs _ _).mono (fun _ h c => ⟨(h c).1.trans ?_, (h c).2.1.trans ?_, (h c).2.2.1.trans ?_, (h c).2.2.2⟩)
      (Cert.ReferenceIdeal.Loop.run_values m' ρ' hx')
    all_goals
      obtain ⟨a0, a1, a2, a3, a4, a5, a6, a7, a8, a9, a10, a11⟩ := hagree c
      obtain ⟨e0, e1⟩ := layers_eq m m' c a0 a1 a2 a3 a4 a5 a6 a7 a8 a9
    · have e2 : Cert.ReferenceIdeal.Loop.wo m' c = Cert.KernelIdeal.Sc.wo m c := a10
      have e3 : Cert.ReferenceIdeal.Loop.bo m' c = Cert.KernelIdeal.Sc.bo m c := a11
      rw [e1, e2, e3]
      exact (Cert.KernelIdeal.Sc.logits_eq m hx c).symm
    · rw [e0, e1]
      exact (Cert.KernelIdeal.Sc.outs_eq m hx c).symm
    · rw [e0, e1]
      exact (Cert.KernelIdeal.Sc.cells_eq m hx c).symm

theorem claim : Cert.Claim := ⟨Cert.Kernel.Gen.facts, Cert.KernelIdeal.Gen.facts, Cert.ReferenceIdeal.Gen.facts, Cert.Pre_in_vocab.Gen.facts,
  frame_p, frame_pi, frame_ri, trivial, algebraic⟩

end Cert.Proof

end
